-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S16x128x32x128 : Shape := ⟨4, ![16, 128, 32, 128]⟩
abbrev S128x128 : Shape := ⟨2, ![128, 128]⟩
abbrev S128 : Shape := ⟨1, ![128]⟩
abbrev S128x128x3 : Shape := ⟨3, ![128, 128, 3]⟩
abbrev S128x3 : Shape := ⟨2, ![128, 3]⟩
abbrev S3 : Shape := ⟨1, ![3]⟩
abbrev S_ : Shape := ⟨0, ![]⟩

class Facts : Prop where
  bcast_S_S16x128x32x128 : S_.BroadcastsInDim S16x128x32x128 (![] : Fin 0 → Fin S16x128x32x128.rank)
  reducesTo_S16x128x32x128_S_d0_1_2_3 : S16x128x32x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  main_v17

def fn {F : FTy → Type} [FloatOps F] (main_arg0 : FVec F S16x128x32x128 .f32) (main_arg1 : FVec F S128x128 .f32) (main_arg2 : FVec F S128 .f32) (main_arg3 : FVec F S128x128x3 .f32) (main_arg4 : FVec F S128 .f32) (main_arg5 : FVec F S128x128 .f32) (main_arg6 : FVec F S128 .f32) (main_arg7 : FVec F S128x128x3 .f32) (main_arg8 : FVec F S128 .f32) (main_arg9 : FVec F S128x128 .f32) (main_arg10 : FVec F S128 .f32) (main_arg11 : FVec F S128x128x3 .f32) (main_arg12 : FVec F S128 .f32) (main_arg13 : FVec F S128x3 .f32) (main_arg14 : FVec F S3 .f32) : IVec S_ 1 :=
  let main_cst : FVec F S_ .f32 := constant S_ .f32 0xFF800000#32
  let main_v0 : FVec F S16x128x32x128 .f32 := broadcastInDim S16x128x32x128 ![] bcast_S_S16x128x32x128 main_cst
  let main_v1 : IVec S16x128x32x128 1 := cmpf .ogt main_arg0 main_v0
  let main_c : IVec S_ 1 := constantI S_ 1 1#1
  let main_v2 : IVec S_ 1 := (fun x v => Host.reduce IntOp.andi x v reducesTo_S16x128x32x128_S_d0_1_2_3 h_S_) main_v1 main_c
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_c_1 : IVec S_ 1 := constantI S_ 1 1#1
  let main_v6 : IVec S_ 1 := (fun x v => Host.reduce IntOp.andi x v reducesTo_S128x128_S_d0_1 h_S_) main_v5 main_c_1
  let main_v7 : IVec S_ 1 := andi main_v2 main_v6
  let main_v8 : FVec F S128x128 .f32 := Host.absf main_arg5
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128x128 .f32 := Host.absf main_arg9
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_v12 main_v15 main_c_5
-- ==== Kernel.lean ====
abbrev S16x128x32x128 : Shape := ⟨4, ![16, 128, 32, 128]⟩
abbrev S128x128 : Shape := ⟨2, ![128, 128]⟩
abbrev S128 : Shape := ⟨1, ![128]⟩
abbrev S128x128x3 : Shape := ⟨3, ![128, 128, 3]⟩
abbrev S128x3 : Shape := ⟨2, ![128, 3]⟩
abbrev S3 : Shape := ⟨1, ![3]⟩
abbrev S32 : Shape := ⟨1, ![32]⟩
abbrev S16x4096x128 : Shape := ⟨3, ![16, 4096, 128]⟩
abbrev S_ : Shape := ⟨0, ![]⟩
abbrev S1x32x1 : Shape := ⟨3, ![1, 32, 1]⟩
abbrev S32x1 : Shape := ⟨2, ![32, 1]⟩
abbrev S1x128 : Shape := ⟨2, ![1, 128]⟩
abbrev S32x128 : Shape := ⟨2, ![32, 128]⟩
abbrev S1x32x128 : Shape := ⟨3, ![1, 32, 128]⟩
abbrev S3x128x128 : Shape := ⟨3, ![3, 128, 128]⟩
abbrev S1x3 : Shape := ⟨2, ![1, 3]⟩
abbrev S16x4096x3 : Shape := ⟨3, ![16, 4096, 3]⟩
abbrev S1x4096x128 : Shape := ⟨3, ![1, 4096, 128]⟩
abbrev S1x4096x3 : Shape := ⟨3, ![1, 4096, 3]⟩
abbrev S4096x128 : Shape := ⟨2, ![4096, 128]⟩
abbrev S128x32x128 : Shape := ⟨3, ![128, 32, 128]⟩
abbrev S128x1x128 : Shape := ⟨3, ![128, 1, 128]⟩
abbrev S128x31x128 : Shape := ⟨3, ![128, 31, 128]⟩
abbrev S4064x128 : Shape := ⟨2, ![4064, 128]⟩
abbrev S1x128x128 : Shape := ⟨3, ![1, 128, 128]⟩
abbrev S4096x3 : Shape := ⟨2, ![4096, 3]⟩

abbrev nBuf : Space → Nat
  | .hbm => 70
  | .vmem => 21
  | .smem => 0
  | _ => 0

abbrev bufTy : (tb : Table) → Fin (tcTables nBuf tb) → BufTy
  | .hbm, ⟨0, _⟩ => ⟨S16x128x32x128, .f32⟩
  | .hbm, ⟨1, _⟩ => ⟨S128x128, .f32⟩
  | .hbm, ⟨2, _⟩ => ⟨S128, .f32⟩
  | .hbm, ⟨3, _⟩ => ⟨S128x128x3, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128x3, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128x3, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S32, .f32⟩
  | .hbm, ⟨16, _⟩ => ⟨S16x4096x128, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1x32x1, .f32⟩
  | .hbm, ⟨22, _⟩ => ⟨S32, .f32⟩
  | .hbm, ⟨23, _⟩ => ⟨S1x32x1, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S1x32x1, .f32⟩
  | .hbm, ⟨28, _⟩ => ⟨S32x1, .f32⟩
  | .hbm, ⟨29, _⟩ => ⟨S1x128, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S1x32x128, .f32⟩
  | .hbm, ⟨34, _⟩ => ⟨S1x128, .f32⟩
  | .hbm, ⟨35, _⟩ => ⟨S32x128, .f32⟩
  | .hbm, ⟨36, _⟩ => ⟨S32x128, .f32⟩
  | .hbm, ⟨37, _⟩ => ⟨S32x128, .f32⟩
  | .hbm, ⟨38, _⟩ => ⟨S1x32x128, .f32⟩
  | .hbm, ⟨39, _⟩ => ⟨S1x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S1x32x128, .f32⟩
  | .hbm, ⟨44, _⟩ => ⟨S1x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S1x32x128, .f32⟩
  | .hbm, ⟨49, _⟩ => ⟨S1x128, .f32⟩
  | .hbm, ⟨50, _⟩ => ⟨S32x128, .f32⟩
  | .hbm, ⟨51, _⟩ => ⟨S32x128, .f32⟩
  | .hbm, ⟨52, _⟩ => ⟨S32x128, .f32⟩
  | .hbm, ⟨53, _⟩ => ⟨S1x32x128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S32x128, .f32⟩
  | .hbm, ⟨58, _⟩ => ⟨S1x32x128, .f32⟩
  | .hbm, ⟨59, _⟩ => ⟨S3x128x128, .f32⟩
  | .hbm, ⟨60, _⟩ => ⟨S3x128x128, .bf16⟩
  | .hbm, ⟨61, _⟩ => ⟨S3x128x128, .f32⟩
  | .hbm, ⟨62, _⟩ => ⟨S3x128x128, .bf16⟩
  | .hbm, ⟨63, _⟩ => ⟨S3x128x128, .f32⟩
  | .hbm, ⟨64, _⟩ => ⟨S3x128x128, .bf16⟩
  | .hbm, ⟨65, _⟩ => ⟨S128x128, .bf16⟩
  | .hbm, ⟨66, _⟩ => ⟨S128x128, .bf16⟩
  | .hbm, ⟨67, _⟩ => ⟨S128x128, .bf16⟩
  | .hbm, ⟨68, _⟩ => ⟨S1x3, .f32⟩
  | .hbm, ⟨69, _⟩ => ⟨S16x4096x3, .f32⟩
  | .local _ .vmem, ⟨0, _⟩ => ⟨S1x4096x128, .f32⟩
  | .local _ .vmem, ⟨1, _⟩ => ⟨S1x4096x128, .f32⟩
  | .local _ .vmem, ⟨2, _⟩ => ⟨S1x32x1, .f32⟩
  | .local _ .vmem, ⟨3, _⟩ => ⟨S1x32x1, .f32⟩
  | .local _ .vmem, ⟨4, _⟩ => ⟨S1x32x1, .f32⟩
  | .local _ .vmem, ⟨5, _⟩ => ⟨S128x128, .bf16⟩
  | .local _ .vmem, ⟨6, _⟩ => ⟨S1x32x128, .f32⟩
  | .local _ .vmem, ⟨7, _⟩ => ⟨S3x128x128, .bf16⟩
  | .local _ .vmem, ⟨8, _⟩ => ⟨S1x32x128, .f32⟩
  | .local _ .vmem, ⟨9, _⟩ => ⟨S128x128, .bf16⟩
  | .local _ .vmem, ⟨10, _⟩ => ⟨S1x32x128, .f32⟩
  | .local _ .vmem, ⟨11, _⟩ => ⟨S3x128x128, .bf16⟩
  | .local _ .vmem, ⟨12, _⟩ => ⟨S1x32x128, .f32⟩
  | .local _ .vmem, ⟨13, _⟩ => ⟨S128x128, .bf16⟩
  | .local _ .vmem, ⟨14, _⟩ => ⟨S1x32x128, .f32⟩
  | .local _ .vmem, ⟨15, _⟩ => ⟨S3x128x128, .bf16⟩
  | .local _ .vmem, ⟨16, _⟩ => ⟨S1x32x128, .f32⟩
  | .local _ .vmem, ⟨17, _⟩ => ⟨S128x3, .f32⟩
  | .local _ .vmem, ⟨18, _⟩ => ⟨S1x3, .f32⟩
  | .local _ .vmem, ⟨19, _⟩ => ⟨S1x4096x3, .f32⟩
  | .local _ .vmem, ⟨20, _⟩ => ⟨S1x4096x3, .f32⟩
  | _, _ => ⟨S16x128x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x4096x3 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S16x128x32x128 : Shape := ⟨4, ![16, 128, 32, 128]⟩
abbrev S128x128 : Shape := ⟨2, ![128, 128]⟩
abbrev S128 : Shape := ⟨1, ![128]⟩
abbrev S128x128x3 : Shape := ⟨3, ![128, 128, 3]⟩
abbrev S128x3 : Shape := ⟨2, ![128, 3]⟩
abbrev S3 : Shape := ⟨1, ![3]⟩
abbrev S32x32 : Shape := ⟨2, ![32, 32]⟩
abbrev S_ : Shape := ⟨0, ![]⟩
abbrev S32 : Shape := ⟨1, ![32]⟩
abbrev S32x1 : Shape := ⟨2, ![32, 1]⟩
abbrev S1x32 : Shape := ⟨2, ![1, 32]⟩
abbrev S16x128x128x32 : Shape := ⟨4, ![16, 128, 128, 32]⟩
abbrev S1x1x1x128 : Shape := ⟨4, ![1, 1, 1, 128]⟩
abbrev S16x129x32x128 : Shape := ⟨4, ![16, 129, 32, 128]⟩
abbrev S128x128x1 : Shape := ⟨3, ![128, 128, 1]⟩
abbrev S16x128x32x3 : Shape := ⟨4, ![16, 128, 32, 3]⟩
abbrev S1x1x1x3 : Shape := ⟨4, ![1, 1, 1, 3]⟩
abbrev S16x4096x3 : Shape := ⟨3, ![16, 4096, 3]⟩

abbrev nBuf : Space → Nat
  | .hbm => 152
  | .vmem => 0
  | .smem => 0
  | _ => 0

abbrev hbmTy0_0 (i : Nat) : BufTy := match i % 128 with
  | 0 => ⟨S16x128x32x128, .f32⟩
  | 1 => ⟨S128x128, .f32⟩
  | 2 => ⟨S128, .f32⟩
  | 3 => ⟨S128x128x3, .f32⟩
  | 4 => ⟨S128, .f32⟩
  | 5 => ⟨S128x128, .f32⟩
  | 6 => ⟨S128, .f32⟩
  | 7 => ⟨S128x128x3, .f32⟩
  | 8 => ⟨S128, .f32⟩
  | 9 => ⟨S128x128, .f32⟩
  | 10 => ⟨S128, .f32⟩
  | 11 => ⟨S128x128x3, .f32⟩
  | 12 => ⟨S128, .f32⟩
  | 13 => ⟨S128x3, .f32⟩
  | 14 => ⟨S3, .f32⟩
  | 15 => ⟨S32x32, .i32⟩
  | 16 => ⟨S32x32, .i32⟩
  | 17 => ⟨S32x32, .i32⟩
  | 18 => ⟨S32x32, .i32⟩
  | 19 => ⟨S_, .i32⟩
  | 20 => ⟨S32x32, .i32⟩
  | 21 => ⟨S32x32, .i1⟩
  | 22 => ⟨S_, .f32⟩
  | 23 => ⟨S_, .f32⟩
  | 24 => ⟨S32x32, .f32⟩
  | 25 => ⟨S32x32, .f32⟩
  | 26 => ⟨S32x32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S32x1, .f32⟩
  | 34 => ⟨S32x32, .f32⟩
  | 35 => ⟨S32x32, .f32⟩
  | 36 => ⟨S1x32, .f32⟩
  | 37 => ⟨S32x32, .f32⟩
  | 38 => ⟨S32x32, .f32⟩
  | 39 => ⟨S16x128x32x128, .f32⟩
  | 40 => ⟨S16x128x128x32, .f32⟩
  | 41 => ⟨S16x128x32x128, .f32⟩
  | 42 => ⟨S1x1x1x128, .f32⟩
  | 43 => ⟨S16x128x32x128, .f32⟩
  | 44 => ⟨S16x128x32x128, .f32⟩
  | 45 => ⟨S_, .f32⟩
  | 46 => ⟨S16x128x32x128, .f32⟩
  | 47 => ⟨S16x128x32x128, .f32⟩
  | 48 => ⟨S16x128x32x128, .f32⟩
  | 49 => ⟨S_, .i32⟩
  | 50 => ⟨S_, .f32⟩
  | 51 => ⟨S16x129x32x128, .f32⟩
  | 52 => ⟨S16x128x32x128, .f32⟩
  | 53 => ⟨S_, .i32⟩
  | 54 => ⟨S_, .f32⟩
  | 55 => ⟨S16x129x32x128, .f32⟩
  | 56 => ⟨S16x128x32x128, .f32⟩
  | 57 => ⟨S128x128x1, .f32⟩
  | 58 => ⟨S128x128, .f32⟩
  | 59 => ⟨S16x128x32x128, .f32⟩
  | 60 => ⟨S128x128x1, .f32⟩
  | 61 => ⟨S128x128, .f32⟩
  | 62 => ⟨S16x128x32x128, .f32⟩
  | 63 => ⟨S16x128x32x128, .f32⟩
  | 64 => ⟨S128x128x1, .f32⟩
  | 65 => ⟨S128x128, .f32⟩
  | 66 => ⟨S16x128x32x128, .f32⟩
  | 67 => ⟨S16x128x32x128, .f32⟩
  | 68 => ⟨S1x1x1x128, .f32⟩
  | 69 => ⟨S16x128x32x128, .f32⟩
  | 70 => ⟨S16x128x32x128, .f32⟩
  | 71 => ⟨S_, .f32⟩
  | 72 => ⟨S16x128x32x128, .f32⟩
  | 73 => ⟨S16x128x32x128, .f32⟩
  | 74 => ⟨S16x128x32x128, .f32⟩
  | 75 => ⟨S16x128x32x128, .f32⟩
  | 76 => ⟨S16x128x128x32, .f32⟩
  | 77 => ⟨S16x128x32x128, .f32⟩
  | 78 => ⟨S1x1x1x128, .f32⟩
  | 79 => ⟨S16x128x32x128, .f32⟩
  | 80 => ⟨S16x128x32x128, .f32⟩
  | 81 => ⟨S_, .f32⟩
  | 82 => ⟨S16x128x32x128, .f32⟩
  | 83 => ⟨S16x128x32x128, .f32⟩
  | 84 => ⟨S16x128x32x128, .f32⟩
  | 85 => ⟨S_, .i32⟩
  | 86 => ⟨S_, .f32⟩
  | 87 => ⟨S16x129x32x128, .f32⟩
  | 88 => ⟨S16x128x32x128, .f32⟩
  | 89 => ⟨S_, .i32⟩
  | 90 => ⟨S_, .f32⟩
  | 91 => ⟨S16x129x32x128, .f32⟩
  | 92 => ⟨S16x128x32x128, .f32⟩
  | 93 => ⟨S128x128x1, .f32⟩
  | 94 => ⟨S128x128, .f32⟩
  | 95 => ⟨S16x128x32x128, .f32⟩
  | 96 => ⟨S128x128x1, .f32⟩
  | 97 => ⟨S128x128, .f32⟩
  | 98 => ⟨S16x128x32x128, .f32⟩
  | 99 => ⟨S16x128x32x128, .f32⟩
  | 100 => ⟨S128x128x1, .f32⟩
  | 101 => ⟨S128x128, .f32⟩
  | 102 => ⟨S16x128x32x128, .f32⟩
  | 103 => ⟨S16x128x32x128, .f32⟩
  | 104 => ⟨S1x1x1x128, .f32⟩
  | 105 => ⟨S16x128x32x128, .f32⟩
  | 106 => ⟨S16x128x32x128, .f32⟩
  | 107 => ⟨S_, .f32⟩
  | 108 => ⟨S16x128x32x128, .f32⟩
  | 109 => ⟨S16x128x32x128, .f32⟩
  | 110 => ⟨S16x128x32x128, .f32⟩
  | 111 => ⟨S16x128x32x128, .f32⟩
  | 112 => ⟨S16x128x128x32, .f32⟩
  | 113 => ⟨S16x128x32x128, .f32⟩
  | 114 => ⟨S1x1x1x128, .f32⟩
  | 115 => ⟨S16x128x32x128, .f32⟩
  | 116 => ⟨S16x128x32x128, .f32⟩
  | 117 => ⟨S_, .f32⟩
  | 118 => ⟨S16x128x32x128, .f32⟩
  | 119 => ⟨S16x128x32x128, .f32⟩
  | 120 => ⟨S16x128x32x128, .f32⟩
  | 121 => ⟨S_, .i32⟩
  | 122 => ⟨S_, .f32⟩
  | 123 => ⟨S16x129x32x128, .f32⟩
  | 124 => ⟨S16x128x32x128, .f32⟩
  | 125 => ⟨S_, .i32⟩
  | 126 => ⟨S_, .f32⟩
  | 127 => ⟨S16x129x32x128, .f32⟩
  | _ => ⟨S16x128x32x128, .f32⟩

abbrev hbmTy0_1 (i : Nat) : BufTy := match i % 128 with
  | 0 => ⟨S16x128x32x128, .f32⟩
  | 1 => ⟨S128x128x1, .f32⟩
  | 2 => ⟨S128x128, .f32⟩
  | 3 => ⟨S16x128x32x128, .f32⟩
  | 4 => ⟨S128x128x1, .f32⟩
  | 5 => ⟨S128x128, .f32⟩
  | 6 => ⟨S16x128x32x128, .f32⟩
  | 7 => ⟨S16x128x32x128, .f32⟩
  | 8 => ⟨S128x128x1, .f32⟩
  | 9 => ⟨S128x128, .f32⟩
  | 10 => ⟨S16x128x32x128, .f32⟩
  | 11 => ⟨S16x128x32x128, .f32⟩
  | 12 => ⟨S1x1x1x128, .f32⟩
  | 13 => ⟨S16x128x32x128, .f32⟩
  | 14 => ⟨S16x128x32x128, .f32⟩
  | 15 => ⟨S_, .f32⟩
  | 16 => ⟨S16x128x32x128, .f32⟩
  | 17 => ⟨S16x128x32x128, .f32⟩
  | 18 => ⟨S16x128x32x128, .f32⟩
  | 19 => ⟨S16x128x32x3, .f32⟩
  | 20 => ⟨S1x1x1x3, .f32⟩
  | 21 => ⟨S16x128x32x3, .f32⟩
  | 22 => ⟨S16x128x32x3, .f32⟩
  | 23 => ⟨S16x4096x3, .f32⟩
  | _ => ⟨S16x128x32x128, .f32⟩

abbrev hbmTy (i : Nat) : BufTy := match i / 128 with
  | 0 => hbmTy0_0 i
  | 1 => hbmTy0_1 i
  | _ => ⟨S16x128x32x128, .f32⟩

abbrev bufTy : (tb : Table) → Fin (tcTables nBuf tb) → BufTy
  | .hbm, ⟨i, _⟩ => hbmTy i
  | _, _ => ⟨S16x128x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_call1_v0 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_call2_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_8 : Ref sig .tc := ⟨.hbm, 85, rfl⟩
abbrev main_call3_v0 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_call4_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_12 : Ref sig .tc := ⟨.hbm, 121, rfl⟩
abbrev main_call5_v0 : Ref sig .tc := ⟨.hbm, 122, rfl⟩
abbrev main_v86 : Ref sig .tc := ⟨.hbm, 123, rfl⟩
abbrev main_v87 : Ref sig .tc := ⟨.hbm, 124, rfl⟩
abbrev main_c_13 : Ref sig .tc := ⟨.hbm, 125, rfl⟩
abbrev main_call6_v0 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_14 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩

abbrev nD : Nat := 1
abbrev τ : Topo := Topo.v7x

variable {F : FTy → Type} [FloatOps F]
-- ==== Proof.Model.lean ====
/-
  The decoder as mathematics over the extended reals: one batch element's hidden state is a function of a
  time, a joint and a channel. `gcnRef` and `convRef` are the reference's two layers, `gcnScaled` and
  `convScaled` the kernel's, which work on the state multiplied, joint by joint, by `D^{-1/2}` of the chain's
  adjacency. The theorems say that the scaled layers carry `s j * h` to `s j * layer h`.
-/
module

public import Idealize.ShloMosaic.Lib.Pointwise

@[expose] public section

noncomputable section

namespace Cert.Decoder

/-- A hidden state of one batch element, by time, joint and channel. -/
abbrev State := Fin 128 → Fin 32 → Fin 128 → EReal

/-- The entry before `j` on an axis, `0` before the first. -/
def prev {n : ℕ} (x : Fin n → EReal) (j : Fin n) : EReal :=
  if h : j.val < 1 then 0 else x ⟨j.val - 1, by omega⟩

/-- The entry after `j` on an axis, `0` after the last. -/
def next {n : ℕ} (x : Fin n → EReal) (j : Fin n) : EReal :=
  if h : j.val + 1 < n then x ⟨j.val + 1, h⟩ else 0

/-- The chain's adjacency with self loops: `1` where the joints differ by at most one, else `0`. -/
def adj (j k : Fin 32) : EReal := if j.val ≤ k.val + 1 ∧ k.val ≤ j.val + 1 then 1 else 0

/-- The number of neighbours of a joint, itself counted: `2` at the two ends and `3` between. -/
def deg (j : Fin 32) : ℝ := if j.val = 0 ∨ j.val = 31 then 2 else 3

/-- `D^{-1/2}` at a joint, as a real number. -/
def sReal (j : Fin 32) : ℝ := 1 / Real.sqrt (deg j)

/-- `D^{-1/2}` at a joint, as an extended real. -/
def s (j : Fin 32) : EReal := (sReal j : EReal)

/-- The normalised adjacency `D^{-1/2} (A + I) D^{-1/2}`. -/
def normAdj (j k : Fin 32) : EReal := s j * adj j k * s k

/-- The reference's graph convolution layer: `h + relu(A (h W) + b)`. -/
def gcnRef (W : Fin 128 → Fin 128 → EReal) (b : Fin 128 → EReal) (h : State) : State := fun t j e =>
  h t j e + max ((∑ k : Fin 32, normAdj j k * ∑ d : Fin 128, h t k d * W d e) + b e) 0

/-- The reference's temporal convolution layer: `h + relu(conv h + b)`, a kernel of three taps `w o i tap`. -/
def convRef (w : Fin 128 → Fin 128 → Fin 3 → EReal) (b : Fin 128 → EReal) (h : State) : State := fun t j e =>
  h t j e + max ((((∑ i : Fin 128, prev (fun t => h t j i) t * w e i 0) + ∑ i : Fin 128, h t j i * w e i 1) +
    ∑ i : Fin 128, next (fun t => h t j i) t * w e i 2) + b e) 0

/-- The kernel's graph convolution layer: the three-row sum of the scaled state, its rows multiplied by `s2`,
    times `W`, plus the row-scaled bias. -/
def gcnScaled (s2 : Fin 32 → EReal) (W : Fin 128 → Fin 128 → EReal) (b : Fin 32 → Fin 128 → EReal) (r : State) :
    State := fun t j e =>
  r t j e + max ((∑ d : Fin 128, ((r t j d + prev (fun j => r t j d) j) + next (fun j => r t j d) j) * s2 j * W d e)
    + b j e) 0

/-- The kernel's temporal convolution layer on the scaled state, with a row-scaled bias; taps `w tap i o`. -/
def convScaled (w : Fin 3 → Fin 128 → Fin 128 → EReal) (b : Fin 32 → Fin 128 → EReal) (r : State) : State :=
  fun t j e =>
  r t j e + max ((((∑ i : Fin 128, prev (fun t => r t j i) t * w 0 i e) + ∑ i : Fin 128, r t j i * w 1 i e) +
    ∑ i : Fin 128, next (fun t => r t j i) t * w 2 i e) + b j e) 0

/-- The degree is positive. -/
theorem deg_pos (j : Fin 32) : 0 < deg j := by
  unfold deg; split <;> norm_num

/-- `D^{-1/2}` is a positive real. -/
theorem sReal_pos (j : Fin 32) : 0 < sReal j := by
  unfold sReal; exact one_div_pos.mpr (Real.sqrt_pos.mpr (deg_pos j))

/-- A scaling by `s j` distributes over sums of any extended reals. -/
theorem s_add (j : Fin 32) (x y : EReal) : s j * (x + y) = s j * x + s j * y :=
  EReal.left_distrib_of_nonneg_of_ne_top (EReal.coe_nonneg.mpr (sReal_pos j).le) (EReal.coe_ne_top _) x y

/-- A scaling by `s j` commutes with the maximum with zero. -/
theorem s_relu (j : Fin 32) (x : EReal) : s j * max x 0 = max (s j * x) 0 := by
  have hs : (0 : EReal) ≤ s j := by
    unfold s; exact_mod_cast (sReal_pos j).le
  have hm : Monotone fun x : EReal => s j * x := fun a b h => mul_le_mul_of_nonneg_left h hs
  have := hm.map_max (a := x) (b := 0)
  simpa using this

/-- A non-negative real factor distributes over finite sums of any extended reals. -/
theorem real_mul_sum {ι : Type} {r : ℝ} (hr : 0 ≤ r) (T : Finset ι) (f : ι → EReal) :
    (r : EReal) * ∑ i ∈ T, f i = ∑ i ∈ T, (r : EReal) * f i := by
  classical
  induction T using Finset.induction_on with
  | empty => simp
  | insert a T ha ih =>
    rw [Finset.sum_insert ha, Finset.sum_insert ha, ← ih]
    exact EReal.left_distrib_of_nonneg_of_ne_top (EReal.coe_nonneg.mpr hr) (EReal.coe_ne_top _) _ _

/-- A scaling by `s j` distributes over finite sums. -/
theorem s_sum {ι : Type} (j : Fin 32) (T : Finset ι) (f : ι → EReal) :
    s j * ∑ i ∈ T, f i = ∑ i ∈ T, s j * f i :=
  real_mul_sum (sReal_pos j).le T f

/-- `s j` and its reciprocal cancel. -/
theorem s_cancel (j : Fin 32) (x : EReal) : s j * x * ((1 / sReal j : ℝ) : EReal) = x := by
  have h : s j * ((1 / sReal j : ℝ) : EReal) = 1 := by
    unfold s
    rw [← EReal.coe_mul, mul_one_div_cancel (sReal_pos j).ne', EReal.coe_one]
  rw [mul_right_comm, h, one_mul]

open Idealize.ShloMosaic in
/-- One over the square root of a degree is `s`. -/
theorem inv_sqrt_deg (j : Fin 32) : Ideal.div 1 (Ideal.sqrt ((deg j : ℝ) : EReal)) = s j := by
  rw [Ideal.sqrt_coe, if_neg (deg_pos j).le.not_gt, Ideal.div_coe (Real.sqrt_pos.mpr (deg_pos j)).ne', one_mul]
  rfl

open Idealize.ShloMosaic in
/-- One over `s` is the reciprocal. -/
theorem inv_s (j : Fin 32) : Ideal.div 1 (s j) = ((1 / sReal j : ℝ) : EReal) := by
  unfold s
  rw [Ideal.div_coe (sReal_pos j).ne', one_mul]

/-- A row of the normalised adjacency meets three rows only. -/
theorem normAdj_sum (x : Fin 32 → EReal) (j : Fin 32) :
    ∑ k : Fin 32, normAdj j k * x k =
      s j * ((s j * x j + prev (fun k => s k * x k) j) + next (fun k => s k * x k) j) := by
  have hterm : ∀ k : Fin 32, normAdj j k * x k = s j * ((if k = j then s j * x j else 0) +
      (if k.val + 1 = j.val then s k * x k else 0) + (if k.val = j.val + 1 then s k * x k else 0)) := by
    intro k
    unfold normAdj adj
    by_cases h1 : k = j
    · subst h1
      simp [mul_assoc]
    · have h1' : k.val ≠ j.val := fun h => h1 (Fin.ext h)
      by_cases h2 : k.val + 1 = j.val
      · have h3 : ¬ k.val = j.val + 1 := by omega
        have h4 : j.val ≤ k.val + 1 ∧ k.val ≤ j.val + 1 := by omega
        rw [if_pos h4, if_neg h1, if_pos h2, if_neg h3, zero_add, add_zero, mul_one, mul_assoc]
      · by_cases h3 : k.val = j.val + 1
        · have h4 : j.val ≤ k.val + 1 ∧ k.val ≤ j.val + 1 := by omega
          rw [if_pos h4, if_neg h1, if_neg h2, if_pos h3, zero_add, zero_add, mul_one, mul_assoc]
        · have h4 : ¬ (j.val ≤ k.val + 1 ∧ k.val ≤ j.val + 1) := by omega
          rw [if_neg h4, if_neg h1, if_neg h2, if_neg h3]
          simp
  rw [Finset.sum_congr rfl fun k _ => hterm k, ← s_sum, Finset.sum_add_distrib, Finset.sum_add_distrib]
  congr 2
  · congr 1
    · rw [Finset.sum_ite_eq' Finset.univ j]
      simp
    · unfold prev
      split
      · rename_i h
        exact Finset.sum_eq_zero fun k _ => if_neg (by omega)
      · rename_i h
        rw [Finset.sum_eq_single ⟨j.val - 1, by omega⟩]
        · exact if_pos (by simp; omega)
        · intro k _ hk
          exact if_neg fun h' => hk (Fin.ext (by simp; omega))
        · simp
  · unfold next
    split
    · rename_i h
      rw [Finset.sum_eq_single ⟨j.val + 1, h⟩]
      · exact if_pos rfl
      · intro k _ hk
        exact if_neg fun h' => hk (Fin.ext h')
      · simp
    · rename_i h
      exact Finset.sum_eq_zero fun k _ => if_neg (by omega)

/-- No entry of a state is minus infinity. -/
def NoBot (h : State) : Prop := ∀ t j e, h t j e ≠ ⊥

/-- A real factor distributes over a sum of two values that are not minus infinity. -/
theorem add_mul_real {x y : EReal} (hx : x ≠ ⊥) (hy : y ≠ ⊥) (w : ℝ) : (x + y) * (w : EReal) = x * w + y * w := by
  have key : ∀ y : EReal, y ≠ ⊥ → (⊤ + y) * (w : EReal) = ⊤ * w + y * w := by
    intro y hy
    rw [EReal.top_add_of_ne_bot hy]
    rcases lt_trichotomy w 0 with hw | rfl | hw
    · rw [EReal.top_mul_coe_of_neg hw, EReal.bot_add]
    · simp
    · rw [EReal.top_mul_coe_of_pos hw, EReal.top_add_of_ne_bot]
      induction y with
      | bot => exact absurd rfl hy
      | coe r => exact EReal.coe_ne_bot (r * w)
      | top => rw [EReal.top_mul_coe_of_pos hw]; exact top_ne_bot
  induction x with
  | bot => exact absurd rfl hx
  | top => exact key y hy
  | coe a =>
    induction y with
    | bot => exact absurd rfl hy
    | top => rw [add_comm, key _ hx, add_comm]
    | coe b => exact_mod_cast congrArg ((↑) : ℝ → EReal) (add_mul a b w)

/-- A value that is not minus infinity plus one that is not stays so. -/
theorem add_ne_bot {x y : EReal} (hx : x ≠ ⊥) (hy : y ≠ ⊥) : x + y ≠ ⊥ := fun h =>
  (EReal.add_eq_bot_iff.mp h).elim hx hy

/-- A real factor distributes over a finite sum of values that are not minus infinity, and the sum is not. -/
theorem sum_mul_real {ι : Type} (T : Finset ι) (f : ι → EReal) (hf : ∀ i, f i ≠ ⊥) (w : ℝ) :
    (∑ i ∈ T, f i) * (w : EReal) = ∑ i ∈ T, f i * w ∧ ∑ i ∈ T, f i ≠ ⊥ := by
  classical
  induction T using Finset.induction_on with
  | empty => simp
  | insert a T ha ih =>
    rw [Finset.sum_insert ha, Finset.sum_insert ha, add_mul_real (hf a) ih.2, ih.1]
    exact ⟨rfl, add_ne_bot (hf a) ih.2⟩

/-- The normalised adjacency is a non-negative real. -/
theorem normAdj_real (j k : Fin 32) : ∃ r : ℝ, 0 ≤ r ∧ normAdj j k = (r : EReal) := by
  have hj := (sReal_pos j).le
  have hk := (sReal_pos k).le
  unfold normAdj adj s
  split
  · exact ⟨sReal j * sReal k, mul_nonneg hj hk, by simp⟩
  · exact ⟨0, le_rfl, by simp⟩

/-- A non-negative real times a value that is not minus infinity is not minus infinity. -/
theorem real_mul_ne_bot {r : ℝ} (hr : 0 ≤ r) {x : EReal} (hx : x ≠ ⊥) : (r : EReal) * x ≠ ⊥ := by
  induction x with
  | bot => exact absurd rfl hx
  | coe a => exact EReal.coe_ne_bot (r * a)
  | top =>
    rcases hr.eq_or_lt with rfl | h
    · simp
    · rw [EReal.coe_mul_top_of_pos h]; exact top_ne_bot

/-- For a state without minus infinity and real weights the adjacency may be applied before the weights. -/
theorem gcn_assoc (W : Fin 128 → Fin 128 → EReal) (h : State) (hh : NoBot h)
    (hW : ∀ d e, ∃ x : ℝ, W d e = (x : EReal)) (t : Fin 128) (j : Fin 32) (e : Fin 128) :
    ∑ k : Fin 32, normAdj j k * ∑ d : Fin 128, h t k d * W d e =
      ∑ d : Fin 128, (∑ k : Fin 32, normAdj j k * h t k d) * W d e := by
  choose Wr hWr using hW
  choose A hA hAr using normAdj_real
  simp only [hAr, hWr, real_mul_sum (hA _ _)]
  rw [Finset.sum_comm]
  refine Finset.sum_congr rfl fun d _ => ?_
  rw [(sum_mul_real _ _ (fun k => real_mul_ne_bot (hA j k) (hh t k d)) _).1]
  exact Finset.sum_congr rfl fun k _ => (mul_assoc _ _ _).symm

/-- The state scaled row by row. -/
def scaled (h : State) : State := fun t j e => s j * h t j e

/-- The kernel's graph convolution of the scaled state is the reference's, scaled. -/
theorem gcnScaled_scaled (W : Fin 128 → Fin 128 → EReal) (b : Fin 128 → EReal) (h : State) (hh : NoBot h)
    (hW : ∀ d e, ∃ x : ℝ, W d e = (x : EReal)) :
    gcnScaled (fun j => s j * s j) W (fun j e => s j * b e) (scaled h) = scaled (gcnRef W b h) := by
  funext t j e
  unfold gcnScaled gcnRef scaled
  beta_reduce
  rw [gcn_assoc W h hh hW, s_add, s_relu, s_add, s_sum]
  congr 3
  refine Finset.sum_congr rfl fun d _ => ?_
  rw [normAdj_sum]
  ac_rfl

/-- A scaling commutes with the entry before. -/
theorem prev_scale {n : ℕ} (j : Fin 32) (x : Fin n → EReal) (t : Fin n) :
    prev (fun t => s j * x t) t = s j * prev x t := by
  unfold prev; split <;> simp

/-- A scaling commutes with the entry after. -/
theorem next_scale {n : ℕ} (j : Fin 32) (x : Fin n → EReal) (t : Fin n) :
    next (fun t => s j * x t) t = s j * next x t := by
  unfold next; split <;> simp

/-- The kernel's temporal convolution of the scaled state is the reference's, scaled. -/
theorem convScaled_scaled (w : Fin 128 → Fin 128 → Fin 3 → EReal) (b : Fin 128 → EReal) (h : State) :
    convScaled (fun k i o => w o i k) (fun j e => s j * b e) (scaled h) = scaled (convRef w b h) := by
  funext t j e
  unfold convScaled convRef scaled
  simp only [prev_scale, next_scale, s_add, s_relu, s_sum, mul_assoc]

/-- A value that is not minus infinity plus a maximum with zero is not minus infinity. -/
theorem add_relu_ne_bot {x : EReal} (hx : x ≠ ⊥) (y : EReal) : x + max y 0 ≠ ⊥ :=
  add_ne_bot hx fun h => absurd (h ▸ le_max_right y 0) (by simp)

/-- The decoder's parameters, by their indices. -/
structure Params where
  /-- the graph layers' weights -/
  Wg : Fin 3 → Fin 128 → Fin 128 → EReal
  /-- the graph layers' biases -/
  bg : Fin 3 → Fin 128 → EReal
  /-- the temporal layers' weights, by output channel, input channel and tap -/
  Wt : Fin 3 → Fin 128 → Fin 128 → Fin 3 → EReal
  /-- the temporal layers' biases -/
  bt : Fin 3 → Fin 128 → EReal

/-- One layer of the reference, a graph convolution and a temporal one. -/
def layerRef (p : Params) (l : Fin 3) (h : State) : State :=
  convRef (p.Wt l) (p.bt l) (gcnRef (p.Wg l) (p.bg l) h)

/-- One layer of the kernel, on the scaled state. -/
def layerScaled (p : Params) (l : Fin 3) (r : State) : State :=
  convScaled (fun k i o => p.Wt l o i k) (fun j e => s j * p.bt l e)
    (gcnScaled (fun j => s j * s j) (p.Wg l) (fun j e => s j * p.bg l e) r)

/-- The final state of the reference. -/
def decodeRef (p : Params) (z : State) : State := layerRef p 2 (layerRef p 1 (layerRef p 0 z))

/-- The final state of the kernel, before it is scaled back. -/
def decodeScaled (p : Params) (z : State) : State := layerScaled p 2 (layerScaled p 1 (layerScaled p 0 (scaled z)))

/-- What the precondition gives: the input has no minus infinity and the graph weights are real. -/
structure Admissible (p : Params) (z : State) : Prop where
  /-- the input has no minus infinity -/
  z : NoBot z
  /-- every graph weight is real -/
  Wg : ∀ l d e, ∃ x : ℝ, p.Wg l d e = (x : EReal)

/-- A layer of the kernel on a scaled state without minus infinity is the reference's layer, scaled. -/
theorem layerScaled_scaled (p : Params) (l : Fin 3) (h : State) (hh : NoBot h)
    (hW : ∀ d e, ∃ x : ℝ, p.Wg l d e = (x : EReal)) :
    layerScaled p l (scaled h) = scaled (layerRef p l h) := by
  unfold layerScaled layerRef
  rw [gcnScaled_scaled _ _ _ hh hW, convScaled_scaled]

/-- The reference's layer adds non-negative terms only, so it keeps a state without minus infinity so. -/
theorem layerRef_noBot (p : Params) (l : Fin 3) (h : State) (hh : NoBot h) : NoBot (layerRef p l h) := fun t j e =>
  add_relu_ne_bot (add_relu_ne_bot (hh t j e) _) _

/-- The kernel's final state is the reference's, scaled. -/
theorem decodeScaled_eq (p : Params) (z : State) (H : Admissible p z) : decodeScaled p z = scaled (decodeRef p z) := by
  have h1 := layerRef_noBot p 0 z H.z
  have h2 := layerRef_noBot p 1 _ h1
  unfold decodeScaled decodeRef
  rw [layerScaled_scaled p 0 z H.z (H.Wg 0), layerScaled_scaled p 1 _ h1 (H.Wg 1),
    layerScaled_scaled p 2 _ h2 (H.Wg 2)]

open Idealize.ShloMosaic in
/-- The decoder's parameters as twelve arrays give them. -/
def paramsOf (a1 : (⟨2, ![128, 128]⟩ : Shape).Idx → EReal) (a2 : (⟨1, ![128]⟩ : Shape).Idx → EReal)
    (a3 : (⟨3, ![128, 128, 3]⟩ : Shape).Idx → EReal) (a4 : (⟨1, ![128]⟩ : Shape).Idx → EReal)
    (a5 : (⟨2, ![128, 128]⟩ : Shape).Idx → EReal) (a6 : (⟨1, ![128]⟩ : Shape).Idx → EReal)
    (a7 : (⟨3, ![128, 128, 3]⟩ : Shape).Idx → EReal) (a8 : (⟨1, ![128]⟩ : Shape).Idx → EReal)
    (a9 : (⟨2, ![128, 128]⟩ : Shape).Idx → EReal) (a10 : (⟨1, ![128]⟩ : Shape).Idx → EReal)
    (a11 : (⟨3, ![128, 128, 3]⟩ : Shape).Idx → EReal) (a12 : (⟨1, ![128]⟩ : Shape).Idx → EReal) : Params where
  Wg := ![fun d e => a1 (ix2 d e), fun d e => a5 (ix2 d e), fun d e => a9 (ix2 d e)]
  bg := ![fun e => a2 (ix1 e), fun e => a6 (ix1 e), fun e => a10 (ix1 e)]
  Wt := ![fun o i k => a3 (ix3 o i k), fun o i k => a7 (ix3 o i k), fun o i k => a11 (ix3 o i k)]
  bt := ![fun e => a4 (ix1 e), fun e => a8 (ix1 e), fun e => a12 (ix1 e)]

open Idealize.ShloMosaic in
/-- One batch element of an input array as a state. -/
def inputOf (a0 : (⟨4, ![16, 128, 32, 128]⟩ : Shape).Idx → EReal) (b : Fin 16) : State := fun t j d => a0 (ix4 b t j d)

open Idealize.ShloMosaic in
/-- The decoder's output as a function of the batch element, the row (a time and a joint) and the coordinate. -/
def decoded (p : Params) (a0 : (⟨4, ![16, 128, 32, 128]⟩ : Shape).Idx → EReal)
    (a13 : (⟨2, ![128, 3]⟩ : Shape).Idx → EReal) (a14 : (⟨1, ![3]⟩ : Shape).Idx → EReal) (b : Fin 16) (n : Fin 4096)
    (o : Fin 3) : EReal :=
  (∑ d : Fin 128, decodeRef p (inputOf a0 b) ⟨n.val / 32, by omega⟩ ⟨n.val % 32, by omega⟩ d * a13 (ix2 d o)) +
    a14 (ix1 o)

end Cert.Decoder

end
-- ==== Proof.Steps.lean ====
/-
  The kernel body's two layers as vector functions, and what they are at an index: the scaled layers of
  `Model.lean`. The generated payloads are compositions of these functions, by unfolding.
-/
module

public import proofs.«01_k».proof.Proof.Gen.KernelIdeal.Frame
public import proofs.«01_k».proof.Proof.Model

@[expose] public section

set_option maxRecDepth 16384

noncomputable section

namespace Cert.Decoder

open Idealize.ShloMosaic Cert.KernelIdeal Cert.KernelIdeal.Gen

variable {F : FTy → Type} [FloatOps F]

/-- A block as a matrix of rows (time and joint) times a weight matrix, as a block again. -/
def mulV (x : FVec F S4096x128 .bf16) (w : FVec F S128x128 .bf16) : FVec F S4096x128 .f32 :=
  matmul dot_S4096x128_S128x128_S4096x128_1_0_0_1_n_n none x w (constant S4096x128 .f32 0x00000000#32)

/-- The sum of a joint's row with its two neighbours', scaled. -/
def mixV (s2 : FVec F S1x32x1 .bf16) (r : FVec F S128x32x128 .bf16) : FVec F S128x32x128 .bf16 :=
  have z : FVec F S128x1x128 .bf16 := broadcast S128x1x128 (Scalar.ofBits .bf16 0x0000#16)
  mulf (addf (addf r
    (concatenate S128x32x128 1 [⟨S128x1x128, z⟩, ⟨S128x31x128, extractStridedSlice S128x31x128 ![0, 0, 0] r slices_S128x32x128_o0_0_0_S128x31x128⟩] concatenates_S128x1x128_S128x31x128_S128x32x128_d1))
    (concatenate S128x32x128 1 [⟨S128x31x128, extractStridedSlice S128x31x128 ![0, 1, 0] r slices_S128x32x128_o0_1_0_S128x31x128⟩, ⟨S128x1x128, z⟩] concatenates_S128x31x128_S128x1x128_S128x32x128_d1))
    (broadcastTo S128x32x128 s2 broadcasts_S1x32x1_S128x32x128)

/-- The graph layer's product, before its bias. -/
def gcnMulV (s2 : FVec F S1x32x1 .bf16) (w : Vec F S128x128 .bf16) (r : FVec F S128x32x128 .bf16) : FVec F S128x32x128 .f32 :=
  shapeCast S128x32x128 (mulV (shapeCast S4096x128 (mixV s2 r) shapeCasts_S128x32x128_S4096x128)
    (shapeCast S128x128 w shapeCasts_S128x128_S128x128)) shapeCasts_S4096x128_S128x32x128

/-- The residual of a layer: the state plus the larger of zero and the layer's value with its bias. -/
def residV (b : Vec F S1x32x128 .f32) (r : FVec F S128x32x128 .f32) (y : FVec F S128x32x128 .f32) : FVec F S128x32x128 .bf16 :=
  truncf .bf16 (addf r (maximumf
    (addf y (broadcastTo S128x32x128 (shapeCast S1x32x128 b shapeCasts_S1x32x128_S1x32x128) broadcasts_S1x32x128_S128x32x128))
    (broadcast S128x32x128 (Scalar.ofBits .f32 0x00000000#32)))) bitsLt_bf16_f32

/-- The graph layer. -/
def gcnV (s2 : FVec F S1x32x1 .bf16) (w : Vec F S128x128 .bf16) (b : Vec F S1x32x128 .f32) (r : FVec F S128x32x128 .bf16) :
    FVec F S128x32x128 .bf16 :=
  residV b (extf .f32 r bitsLt_bf16_f32) (gcnMulV s2 w r)

/-- The temporal layer's three products, before its bias, of the state as a matrix of rows. -/
def tapsV (w0 w1 w2 : Vec F S1x128x128 .bf16) (x : FVec F S4096x128 .bf16) : FVec F S128x32x128 .f32 :=
  have z : FVec F S32x128 .bf16 := broadcast S32x128 (Scalar.ofBits .bf16 0x0000#16)
  shapeCast S128x32x128 (addf (addf
    (mulV (concatenate S4096x128 0 [⟨S32x128, z⟩, ⟨S4064x128, extractStridedSlice S4064x128 ![0, 0] x slices_S4096x128_o0_0_S4064x128⟩] concatenates_S32x128_S4064x128_S4096x128_d0)
      (shapeCast S128x128 w0 shapeCasts_S1x128x128_S128x128))
    (mulV x (shapeCast S128x128 w1 shapeCasts_S1x128x128_S128x128)))
    (mulV (concatenate S4096x128 0 [⟨S4064x128, extractStridedSlice S4064x128 ![32, 0] x slices_S4096x128_o32_0_S4064x128⟩, ⟨S32x128, z⟩] concatenates_S4064x128_S32x128_S4096x128_d0)
      (shapeCast S128x128 w2 shapeCasts_S1x128x128_S128x128))) shapeCasts_S4096x128_S128x32x128

/-- The temporal layer. -/
def convV (w0 w1 w2 : Vec F S1x128x128 .bf16) (b : Vec F S1x32x128 .f32) (r : FVec F S128x32x128 .bf16) :
    FVec F S128x32x128 .bf16 :=
  residV b (extf .f32 r bitsLt_bf16_f32) (tapsV w0 w1 w2 (shapeCast S4096x128 r shapeCasts_S128x32x128_S4096x128))

/-- The scaled input. -/
def inV (s : Vec F S1x32x1 .f32) (z : Vec F S1x4096x128 .f32) : FVec F S128x32x128 .bf16 :=
  truncf .bf16 (mulf (broadcastTo S128x32x128 (shapeCast S1x32x1 s shapeCasts_S1x32x1_S1x32x1) broadcasts_S1x32x1_S128x32x128)
    (shapeCast S128x32x128 (shapeCast S4096x128 z shapeCasts_S1x4096x128_S4096x128) shapeCasts_S4096x128_S128x32x128)) bitsLt_bf16_f32

/-- The output of the final state: scaled back, times the output weights, plus the output bias. -/
def outV (si : FVec F S1x32x1 .f32) (w : Vec F S128x3 .f32) (b : Vec F S1x3 .f32) (r : FVec F S128x32x128 .bf16) : FVec F S1x4096x3 .f32 :=
  shapeCast S1x4096x3 (addf (matmul dot_S4096x128_S128x3_S4096x3_1_0_0_1_n_n none
    (shapeCast S4096x128 (mulf (extf .f32 r bitsLt_bf16_f32) (broadcastTo S128x32x128 si broadcasts_S1x32x1_S128x32x128)) shapeCasts_S128x32x128_S4096x128)
    w (constant S4096x3 .f32 0x00000000#32))
    (broadcastTo S4096x3 (shapeCast S1x3 b shapeCasts_S1x3_S1x3) broadcasts_S1x3_S4096x3)) shapeCasts_S4096x3_S1x4096x3

/-- The first payload: the graph layer of the scaled input. -/
theorem pay4_eq (v0 v2 : Vec F S1x32x1 .f32) (v7 : Vec F S1x4096x128 .f32) (v23 : Vec F S128x128 .bf16) (v28 : Vec F S1x32x128 .f32) :
    k0_pay4 v0 v2 v7 v23 v28 = gcnV (k0_pay2 v2) v23 v28 (inV v0 v7) := rfl

/-- The temporal layer's payload. -/
theorem pay7_eq (r : FVec F S128x32x128 .bf16) (w0 w1 w2 : Vec F S1x128x128 .bf16) (b : Vec F S1x32x128 .f32) :
    k0_pay7 r (shapeCast S4096x128 r shapeCasts_S128x32x128_S4096x128) k0_pay6 w0 w1 w2 b = convV w0 w1 w2 b r := rfl

/-- The second layers' payload. -/
theorem pay10_eq (s2 : FVec F S1x32x1 .bf16) (r : FVec F S128x32x128 .bf16) (w : Vec F S128x128 .bf16) (b : Vec F S1x32x128 .f32)
    (w0 w1 w2 : Vec F S1x128x128 .bf16) (b' : Vec F S1x32x128 .f32) :
    k0_pay10 (gcnMulV s2 w r) (extf .f32 r bitsLt_bf16_f32) b w0 w1 w2 b' = convV w0 w1 w2 b' (gcnV s2 w b r) := rfl

/-- A read of the larger of a value and zero in the residual, at an index. -/
theorem residV_at (b : Vec Ideal S1x32x128 .f32) (r y : FVec Ideal S128x32x128 .f32) (t : Fin 128) (j : Fin 32) (e : Fin 128) :
    residV b r y (ix3 t j e) = r (ix3 t j e) + max (y (ix3 t j e) + b (ix3 0 j e)) 0 := by
  pointwise [residV]

/-- The scaled input at an index. -/
theorem inV_at (s : Vec Ideal S1x32x1 .f32) (z : Vec Ideal S1x4096x128 .f32) (t : Fin 128) (j : Fin 32) (e : Fin 128) :
    inV s z (ix3 t j e) = s (ix3 0 j 0) * z (ix3 0 ⟨t.val * 32 + j.val, by omega⟩ e) := by
  pointwise [inV]

/-- The three-row sum at an index. -/
theorem mixV_at (s2 : FVec Ideal S1x32x1 .bf16) (r : FVec Ideal S128x32x128 .bf16) (t : Fin 128) (j : Fin 32) (e : Fin 128) :
    mixV s2 r (ix3 t j e) = ((r (ix3 t j e) + prev (fun j => r (ix3 t j e)) j) + next (fun j => r (ix3 t j e)) j) * s2 (ix3 0 j 0) := by
  pointwise [mixV]
  have hn : (if h : j.val < 31 then r (ix3 t ⟨1 + j.val, by omega⟩ e) else 0) = next (fun j => r (ix3 t j e)) j := by
    unfold next
    by_cases h : j.val < 31
    · rw [dif_pos h, dif_pos (by omega)]
      simp only [Nat.add_comm]
    · rw [dif_neg h, dif_neg (by omega)]
  rw [hn]
  rfl

/-- The graph layer's product at an index. -/
theorem gcnMulV_at (s2 : FVec Ideal S1x32x1 .bf16) (w : Vec Ideal S128x128 .bf16) (r : FVec Ideal S128x32x128 .bf16) (t : Fin 128) (j : Fin 32) (e : Fin 128) :
    gcnMulV s2 w r (ix3 t j e) = ∑ d : Fin 128, mixV s2 r (ix3 t j d) * w (ix2 d e) := by
  pointwise [gcnMulV, mulV]

/-- The temporal layer's products at an index. -/
theorem tapsV_at (w0 w1 w2 : Vec Ideal S1x128x128 .bf16) (r : FVec Ideal S128x32x128 .bf16) (t : Fin 128) (j : Fin 32) (e : Fin 128) :
    tapsV w0 w1 w2 (shapeCast S4096x128 r shapeCasts_S128x32x128_S4096x128) (ix3 t j e) =
      ((∑ i : Fin 128, prev (fun t => r (ix3 t j i)) t * w0 (ix3 0 i e)) + ∑ i : Fin 128, r (ix3 t j i) * w1 (ix3 0 i e)) +
        ∑ i : Fin 128, next (fun t => r (ix3 t j i)) t * w2 (ix3 0 i e) := by
  pointwise [tapsV, mulV]
  have hp : ∀ x : Fin 128, (if h : t.val * 32 + j.val < 32 then 0 else
      r (ix3 ⟨(t.val * 32 + j.val - 32) / 32, by omega⟩ ⟨(t.val * 32 + j.val - 32) % 32, by omega⟩ x)) =
      prev (fun t => r (ix3 t j x)) t := by
    intro x
    unfold prev
    by_cases h : t.val < 1
    · rw [dif_pos h, dif_pos (by omega)]
    · rw [dif_neg h, dif_neg (by omega)]
      congr 2
      · exact Fin.ext (by simp only []; omega)
      · exact Fin.ext (by simp only []; omega)
  have hn : ∀ x : Fin 128, (if h : t.val * 32 + j.val < 4064 then
      r (ix3 ⟨(32 + (t.val * 32 + j.val)) / 32, by omega⟩ j x) else 0) = next (fun t => r (ix3 t j x)) t := by
    intro x
    unfold next
    by_cases h : t.val < 127
    · rw [dif_pos (by omega), dif_pos (by omega)]
      congr 2
      exact Fin.ext (by simp only []; omega)
    · rw [dif_neg (by omega), dif_neg (by omega)]
  simp only [hp, hn]

/-- The output at an index. -/
theorem outV_at (si : FVec Ideal S1x32x1 .f32) (w : Vec Ideal S128x3 .f32) (b : Vec Ideal S1x3 .f32) (r : FVec Ideal S128x32x128 .bf16)
    (n : Fin 4096) (o : Fin 3) :
    outV si w b r (ix3 0 n o) = (∑ d : Fin 128, (r (ix3 ⟨n.val / 32, by omega⟩ ⟨n.val % 32, by omega⟩ d) *
      si (ix3 0 ⟨n.val % 32, by omega⟩ 0)) * w (ix2 d o)) + b (ix2 0 o) := by
  pointwise [outV]

end Cert.Decoder

end
-- ==== Proof.Body.lean ====
/-
  The kernel body's output block at an index, as the scaled layers of `Model.lean` over its input blocks.
-/
module

public import proofs.«01_k».proof.Proof.Steps

@[expose] public section

set_option maxRecDepth 16384

noncomputable section

namespace Cert.Decoder

open Idealize.ShloMosaic Cert.KernelIdeal Cert.KernelIdeal.Gen

/-- A block of rows as a state. -/
def stateOf (r : FVec Ideal S128x32x128 .bf16) : State := fun t j e => r (ix3 t j e)

/-- The graph layer's block as a state. -/
theorem stateOf_gcnV (s2 : FVec Ideal S1x32x1 .bf16) (w : Vec Ideal S128x128 .bf16) (b : Vec Ideal S1x32x128 .f32)
    (r : FVec Ideal S128x32x128 .bf16) :
    stateOf (gcnV s2 w b r) =
      gcnScaled (fun j => s2 (ix3 0 j 0)) (fun d e => w (ix2 d e)) (fun j e => b (ix3 0 j e)) (stateOf r) := by
  funext t j e
  unfold stateOf gcnV gcnScaled
  rw [residV_at, gcnMulV_at]
  simp only [mixV_at]
  pointwise

/-- The temporal layer's block as a state, its taps the three matrices of one array. -/
theorem stateOf_convV (w : Vec Ideal S3x128x128 .bf16) (b : Vec Ideal S1x32x128 .f32) (r : FVec Ideal S128x32x128 .bf16) :
    stateOf (convV (View.ld w r0_4) (View.ld w r0_5) (View.ld w r0_6) b r) =
      convScaled (fun k i o => w (ix3 k i o)) (fun j e => b (ix3 0 j e)) (stateOf r) := by
  funext t j e
  unfold stateOf convV convScaled
  rw [residV_at, tapsV_at]
  pointwise

/-- The scaled input block as a state. -/
theorem stateOf_inV (s : Vec Ideal S1x32x1 .f32) (z : Vec Ideal S1x4096x128 .f32) :
    stateOf (inV s z) = fun t j e => s (ix3 0 j 0) * z (ix3 0 ⟨t.val * 32 + j.val, by omega⟩ e) := by
  funext t j e
  exact inV_at s z t j e

/-- The body's final state, of its input blocks. -/
def bodyState (x0 : Vec Ideal S1x4096x128 .f32) (x1 x2 : Vec Ideal S1x32x1 .f32)
    (x4 : Vec Ideal S128x128 .bf16) (x5 : Vec Ideal S1x32x128 .f32) (x6 : Vec Ideal S3x128x128 .bf16) (x7 : Vec Ideal S1x32x128 .f32)
    (x8 : Vec Ideal S128x128 .bf16) (x9 : Vec Ideal S1x32x128 .f32) (x10 : Vec Ideal S3x128x128 .bf16) (x11 : Vec Ideal S1x32x128 .f32)
    (x12 : Vec Ideal S128x128 .bf16) (x13 : Vec Ideal S1x32x128 .f32) (x14 : Vec Ideal S3x128x128 .bf16) (x15 : Vec Ideal S1x32x128 .f32) :
    FVec Ideal S128x32x128 .bf16 :=
  convV (View.ld x14 r0_4) (View.ld x14 r0_5) (View.ld x14 r0_6) (View.ld x15 r0_3)
    (gcnV (k0_pay2 (View.ld x2 r0_0)) (View.ld x12 r0_2) (View.ld x13 r0_3)
      (convV (View.ld x10 r0_4) (View.ld x10 r0_5) (View.ld x10 r0_6) (View.ld x11 r0_3)
        (gcnV (k0_pay2 (View.ld x2 r0_0)) (View.ld x8 r0_2) (View.ld x9 r0_3)
          (convV (View.ld x6 r0_4) (View.ld x6 r0_5) (View.ld x6 r0_6) (View.ld x7 r0_3)
            (gcnV (k0_pay2 (View.ld x2 r0_0)) (View.ld x4 r0_2) (View.ld x5 r0_3)
              (inV (View.ld x1 r0_0) (View.ld x0 r0_1)))))))

/-- The body's output block is the output of its final state. -/
theorem out_eq (x0 : Vec Ideal S1x4096x128 .f32) (x1 x2 x3 : Vec Ideal S1x32x1 .f32)
    (x4 : Vec Ideal S128x128 .bf16) (x5 : Vec Ideal S1x32x128 .f32) (x6 : Vec Ideal S3x128x128 .bf16) (x7 : Vec Ideal S1x32x128 .f32)
    (x8 : Vec Ideal S128x128 .bf16) (x9 : Vec Ideal S1x32x128 .f32) (x10 : Vec Ideal S3x128x128 .bf16) (x11 : Vec Ideal S1x32x128 .f32)
    (x12 : Vec Ideal S128x128 .bf16) (x13 : Vec Ideal S1x32x128 .f32) (x14 : Vec Ideal S3x128x128 .bf16) (x15 : Vec Ideal S1x32x128 .f32)
    (x16 : Vec Ideal S128x3 .f32) (x17 : Vec Ideal S1x3 .f32) :
    out0_18 x0 x1 x2 x3 x4 x5 x6 x7 x8 x9 x10 x11 x12 x13 x14 x15 x16 x17 =
      outV (k0_pay3 (View.ld x3 r0_0)) (View.ld x16 r0_7) (View.ld x17 r0_8)
        (bodyState x0 x1 x2 x4 x5 x6 x7 x8 x9 x10 x11 x12 x13 x14 x15) := by
  unfold_out out0_18
  rw [View.canon_unit_zero (by decide)]
  rfl

end Cert.Decoder

end
-- ==== Proof.Host.lean ====
/-
  What the host operations before the kernel leave in its operands, at an index: the powers of the degrees, the
  row-scaled biases, the transposed taps, and the argument arrays re-laid.
-/
module

public import proofs.«01_k».proof.Proof.Body
public import Idealize.ShloMosaic.Lib.Pipeline.ValueKit
public import Idealize.ShloMosaic.Lib.Claim
public import Idealize.ShloMosaic.Lib.Tactic

@[expose] public section

set_option maxRecDepth 16384

noncomputable section

namespace Cert.Decoder

open Idealize.ShloMosaic Idealize.ShloMosaic.TcCoe Idealize.SL.Sem Cert.KernelIdeal Cert.KernelIdeal.Gen

variable (m : (ℓ : Loc nD τ sig) → Buf (Elt Ideal) ℓ) (c : Dev nD)

/-- The printed table of degrees is `deg`. -/
theorem lit0_deg (j : Fin 32) : Ideal.ofBits .f32 (lit0 (S32.rowMajor (ix1 j))) = ((deg j : ℝ) : EReal) := by
  have h : ∀ j : Fin 32, lit0 (S32.rowMajor (ix1 j)) = if j.val = 0 ∨ j.val = 31 then 0x40000000#32 else 0x40400000#32 := by
    decide +kernel
  rw [h]
  unfold deg
  split
  · simp [Ideal.ofBits, Ideal.ieee, -EReal.coe_mul]; norm_num
  · simp [Ideal.ofBits, Ideal.ieee, -EReal.coe_mul]; norm_num

/-- `D^{-1/2}` by joint. -/
theorem V_v4 (j : Fin 32) : V m c main_v4 (ix3 0 j 0) = s j := by
  entry_read
  pointwise
  rw [lit0_deg, inv_sqrt_deg]

/-- `D^{-1}` by joint. -/
theorem V_v6 (j : Fin 32) : V m c main_v6 (ix3 0 j 0) = s j * s j := by
  entry_read
  pointwise
  rw [lit0_deg, inv_sqrt_deg]

/-- `D^{1/2}` by joint. -/
theorem V_v9 (j : Fin 32) : V m c main_v9 (ix3 0 j 0) = ((1 / sReal j : ℝ) : EReal) := by
  entry_read
  pointwise
  rw [lit0_deg, inv_sqrt_deg, inv_s]

/-- The biases, scaled by row: the graph layers' three, then the temporal layers' three. -/
theorem V_bias (j : Fin 32) (e : Fin 128) :
    (V m c main_v15 (ix3 0 j e) = s j * m (c, main_arg2) (ix1 e) ∧
      V m c main_v20 (ix3 0 j e) = s j * m (c, main_arg6) (ix1 e) ∧
      V m c main_v25 (ix3 0 j e) = s j * m (c, main_arg10) (ix1 e)) ∧
    V m c main_v30 (ix3 0 j e) = s j * m (c, main_arg4) (ix1 e) ∧
      V m c main_v35 (ix3 0 j e) = s j * m (c, main_arg8) (ix1 e) ∧
      V m c main_v40 (ix3 0 j e) = s j * m (c, main_arg12) (ix1 e) := by
  refine ⟨⟨?_, ?_, ?_⟩, ?_, ?_, ?_⟩ <;>
    (entry_read
     pointwise
     rw [lit0_deg, inv_sqrt_deg])

/-- The temporal layers' taps, transposed. -/
theorem V_taps (k : Fin 3) (i o : Fin 128) :
    V m c main_v42 (ix3 k i o) = m (c, main_arg3) (ix3 o i k) ∧
      V m c main_v44 (ix3 k i o) = m (c, main_arg7) (ix3 o i k) ∧
      V m c main_v46 (ix3 k i o) = m (c, main_arg11) (ix3 o i k) := by
  refine ⟨?_, ?_, ?_⟩ <;>
    (entry_read
     pointwise)

/-- The graph layers' weights. -/
theorem V_weights (d e : Fin 128) :
    V m c main_v47 (ix2 d e) = m (c, main_arg1) (ix2 d e) ∧
      V m c main_v48 (ix2 d e) = m (c, main_arg5) (ix2 d e) ∧
      V m c main_v49 (ix2 d e) = m (c, main_arg9) (ix2 d e) := by
  refine ⟨?_, ?_, ?_⟩ <;>
    (entry_read
     pointwise)

/-- The output bias, as a row. -/
theorem V_v50 (o : Fin 3) : V m c main_v50 (ix2 0 o) = m (c, main_arg14) (ix1 o) := by
  entry_read
  pointwise

/-- The input, its times and joints in one axis. -/
theorem V_v0 (b : Fin 16) (t : Fin 128) (j : Fin 32) (d : Fin 128) :
    V m c main_v0 (ix3 b ⟨t.val * 32 + j.val, by omega⟩ d) = m (c, main_arg0) (ix4 b t j d) := by
  entry_read
  pointwise

end Cert.Decoder

end
-- ==== Proof.Blocks.lean ====
/-
  The kernel's input windows: every one but the first has one block, its whole array, at every grid point; the
  first's block at point `t` is batch element `t`.
-/
module

public import proofs.«01_k».proof.Proof.Host
public import proofs.«01_k».proof.Proof.Gen.KernelIdeal.Value

@[expose] public section

set_option maxRecDepth 16384
set_option maxHeartbeats 2000000

noncomputable section

namespace Cert.Decoder

open Idealize.ShloMosaic Idealize.ShloMosaic.TcCoe Idealize.SL.Sem Cert.KernelIdeal Cert.KernelIdeal.Gen

variable (m : (ℓ : Loc nD τ sig) → Buf (Elt Ideal) ℓ) (c : Dev nD)

/-- The block indices of the windows: `0` but for the batch element's. -/
theorem idx_eq : ∀ t : Fin grid0.N, (win0_0.index t = ![t.val, 0, 0] ∧ win0_18.index t = ![t.val, 0, 0]) ∧
    win0_1.index t = ![0, 0, 0] ∧ win0_2.index t = ![0, 0, 0] ∧ win0_3.index t = ![0, 0, 0] ∧
    win0_4.index t = ![0, 0] ∧ win0_5.index t = ![0, 0, 0] ∧ win0_6.index t = ![0, 0, 0] ∧ win0_7.index t = ![0, 0, 0] ∧
    win0_8.index t = ![0, 0] ∧ win0_9.index t = ![0, 0, 0] ∧ win0_10.index t = ![0, 0, 0] ∧ win0_11.index t = ![0, 0, 0] ∧
    win0_12.index t = ![0, 0] ∧ win0_13.index t = ![0, 0, 0] ∧ win0_14.index t = ![0, 0, 0] ∧ win0_15.index t = ![0, 0, 0] ∧
    win0_16.index t = ![0, 0] ∧ win0_17.index t = ![0, 0] := by
  decide +kernel

/-- The powers of the degrees in their blocks. -/
theorem blk_deg (t : Fin cfg0.N) (j : Fin 32) :
    iblk m c 1 t (ix3 0 j 0) = s j ∧ iblk m c 2 t (ix3 0 j 0) = s j * s j ∧
      iblk m c 3 t (ix3 0 j 0) = ((1 / sReal j : ℝ) : EReal) := by
  obtain ⟨⟨i0, -⟩, i1, i2, i3, i4, i5, i6, i7, i8, i9, i10, i11, i12, i13, i14, i15, i16, i17⟩ := idx_eq t
  refine ⟨Eq.trans ?_ (V_v4 m c j), Eq.trans ?_ (V_v6 m c j), Eq.trans ?_ (V_v9 m c j)⟩
  · blk_ext [iblk, i1]
  · blk_ext [iblk, i2]
  · blk_ext [iblk, i3]

/-- The scaled biases in their blocks: the graph layers' three, then the temporal layers' three. -/
theorem blk_bias (t : Fin cfg0.N) (j : Fin 32) (e : Fin 128) :
    (iblk m c 5 t (ix3 0 j e) = s j * m (c, main_arg2) (ix1 e) ∧
      iblk m c 9 t (ix3 0 j e) = s j * m (c, main_arg6) (ix1 e) ∧
      iblk m c 13 t (ix3 0 j e) = s j * m (c, main_arg10) (ix1 e)) ∧
    iblk m c 7 t (ix3 0 j e) = s j * m (c, main_arg4) (ix1 e) ∧
      iblk m c 11 t (ix3 0 j e) = s j * m (c, main_arg8) (ix1 e) ∧
      iblk m c 15 t (ix3 0 j e) = s j * m (c, main_arg12) (ix1 e) := by
  obtain ⟨⟨h0, h1, h2⟩, h3, h4, h5⟩ := V_bias m c j e
  obtain ⟨⟨i0, -⟩, i1, i2, i3, i4, i5, i6, i7, i8, i9, i10, i11, i12, i13, i14, i15, i16, i17⟩ := idx_eq t
  refine ⟨⟨Eq.trans ?_ h0, Eq.trans ?_ h1, Eq.trans ?_ h2⟩, Eq.trans ?_ h3, Eq.trans ?_ h4, Eq.trans ?_ h5⟩
  · blk_ext [iblk, i5]
  · blk_ext [iblk, i9]
  · blk_ext [iblk, i13]
  · blk_ext [iblk, i7]
  · blk_ext [iblk, i11]
  · blk_ext [iblk, i15]

/-- The taps in their blocks. -/
theorem blk_taps (t : Fin cfg0.N) (k : Fin 3) (i o : Fin 128) :
    iblk m c 6 t (ix3 k i o) = m (c, main_arg3) (ix3 o i k) ∧
      iblk m c 10 t (ix3 k i o) = m (c, main_arg7) (ix3 o i k) ∧
      iblk m c 14 t (ix3 k i o) = m (c, main_arg11) (ix3 o i k) := by
  obtain ⟨h0, h1, h2⟩ := V_taps m c k i o
  obtain ⟨⟨i0, -⟩, i1, i2, i3, i4, i5, i6, i7, i8, i9, i10, i11, i12, i13, i14, i15, i16, i17⟩ := idx_eq t
  refine ⟨Eq.trans ?_ h0, Eq.trans ?_ h1, Eq.trans ?_ h2⟩
  · blk_ext [iblk, i6]
  · blk_ext [iblk, i10]
  · blk_ext [iblk, i14]

/-- The graph weights in their blocks. -/
theorem blk_weights (t : Fin cfg0.N) (d e : Fin 128) :
    iblk m c 4 t (ix2 d e) = m (c, main_arg1) (ix2 d e) ∧
      iblk m c 8 t (ix2 d e) = m (c, main_arg5) (ix2 d e) ∧
      iblk m c 12 t (ix2 d e) = m (c, main_arg9) (ix2 d e) := by
  obtain ⟨h0, h1, h2⟩ := V_weights m c d e
  obtain ⟨⟨i0, -⟩, i1, i2, i3, i4, i5, i6, i7, i8, i9, i10, i11, i12, i13, i14, i15, i16, i17⟩ := idx_eq t
  refine ⟨Eq.trans ?_ h0, Eq.trans ?_ h1, Eq.trans ?_ h2⟩
  · blk_ext [iblk, i4]
  · blk_ext [iblk, i8]
  · blk_ext [iblk, i12]

/-- The output weights and bias in their blocks. -/
theorem blk_out (t : Fin cfg0.N) (d : Fin 128) (o : Fin 3) :
    iblk m c 16 t (ix2 d o) = m (c, main_arg13) (ix2 d o) ∧ iblk m c 17 t (ix2 0 o) = m (c, main_arg14) (ix1 o) := by
  obtain ⟨⟨i0, -⟩, i1, i2, i3, i4, i5, i6, i7, i8, i9, i10, i11, i12, i13, i14, i15, i16, i17⟩ := idx_eq t
  refine ⟨Eq.trans ?_ (congrFun (V_main_arg13 m c) _), Eq.trans ?_ (V_v50 m c o)⟩
  · blk_ext [iblk, i16]
  · blk_ext [iblk, i17]

/-- The batch element in its block. -/
theorem blk_input (t : Fin cfg0.N) (b : Fin 16) (hb : b.val = t.val) (t' : Fin 128) (j : Fin 32) (d : Fin 128) :
    iblk m c 0 t (ix3 0 ⟨t'.val * 32 + j.val, by omega⟩ d) = m (c, main_arg0) (ix4 b t' j d) := by
  refine Eq.trans ?_ (V_v0 m c b t' j d)
  blk_ext [iblk, (idx_eq t).1.1]

end Cert.Decoder

end
-- ==== Proof.Result.lean ====
/-
  The kernel's result array after the run, at every index: the reference's decoder of the argument arrays.
-/
module

public import proofs.«01_k».proof.Proof.Blocks

@[expose] public section

set_option maxRecDepth 16384
set_option maxHeartbeats 1000000

noncomputable section

namespace Cert.Decoder

open Idealize.ShloMosaic Idealize.ShloMosaic.TcCoe Idealize.SL.Sem Cert.KernelIdeal Cert.KernelIdeal.Gen

variable (m : (ℓ : Loc nD τ sig) → Buf (Elt Ideal) ℓ) (c : Dev nD)

/-- The decoder's parameters in the kernel's memory. -/
def kParams : Params :=
  paramsOf (m (c, main_arg1)) (m (c, main_arg2)) (m (c, main_arg3)) (m (c, main_arg4)) (m (c, main_arg5)) (m (c, main_arg6))
    (m (c, main_arg7)) (m (c, main_arg8)) (m (c, main_arg9)) (m (c, main_arg10)) (m (c, main_arg11)) (m (c, main_arg12))

/-- The result array the kernel ends with. -/
def kResult : Buf (Elt Ideal) ((c : Thread nD τ).loc main_v51) := fun i : S16x4096x3.Idx =>
  decoded (kParams m c) (m (c, main_arg0)) (m (c, main_arg13)) (m (c, main_arg14)) (i 0) (i 1) (i 2)

/-- A layer of the body, over blocks that hold a layer's parameters, is the kernel's scaled layer. -/
theorem stateOf_layer (p : Params) (l : Fin 3) (x2 : Vec Ideal S1x32x1 .f32) (w : Vec Ideal S128x128 .bf16)
    (b : Vec Ideal S1x32x128 .f32) (w' : Vec Ideal S3x128x128 .bf16) (b' : Vec Ideal S1x32x128 .f32)
    (r : FVec Ideal S128x32x128 .bf16) (hs : ∀ j, x2 (ix3 0 j 0) = s j * s j) (hw : ∀ d e, w (ix2 d e) = p.Wg l d e)
    (hb : ∀ j e, b (ix3 0 j e) = s j * p.bg l e) (hw' : ∀ k i o, w' (ix3 k i o) = p.Wt l o i k)
    (hb' : ∀ j e, b' (ix3 0 j e) = s j * p.bt l e) :
    stateOf (convV (View.ld w' r0_4) (View.ld w' r0_5) (View.ld w' r0_6) (View.ld b' r0_3)
      (gcnV (k0_pay2 (View.ld x2 r0_0)) (View.ld w r0_2) (View.ld b r0_3) r)) = layerScaled p l (stateOf r) := by
  rw [stateOf_convV, stateOf_gcnV]
  unfold layerScaled
  have e0 : (fun j : Fin 32 => k0_pay2 (F := Ideal) (View.ld x2 r0_0) (ix3 0 j 0)) = fun j => s j * s j := by
    funext j
    rw [← hs]
    pointwise [k0_pay2]
  have e1 : (fun d e : Fin 128 => (View.ld w r0_2 : Vec Ideal S128x128 .bf16) (ix2 d e)) = p.Wg l := by
    funext d e
    rw [← hw]
    pointwise
  have e2 : (fun (j : Fin 32) (e : Fin 128) => (View.ld b r0_3 : Vec Ideal S1x32x128 .f32) (ix3 0 j e)) = fun j e => s j * p.bg l e := by
    funext j e
    rw [← hb]
    pointwise
  have e3 : (fun (k : Fin 3) (i o : Fin 128) => w' (ix3 k i o)) = fun k i o => p.Wt l o i k := by
    funext k i o
    exact hw' k i o
  have e4 : (fun (j : Fin 32) (e : Fin 128) => (View.ld b' r0_3 : Vec Ideal S1x32x128 .f32) (ix3 0 j e)) = fun j e => s j * p.bt l e := by
    funext j e
    rw [← hb']
    pointwise
  rw [e0, e1, e2, e3, e4]

/-- The body's final state at grid point `t` is the kernel's scaled decoder of batch element `t`. -/
theorem stateOf_body (t : Fin cfg0.N) (b : Fin 16) (hb : b.val = t.val) :
    stateOf (bodyState (iblk m c 0 t) (iblk m c 1 t) (iblk m c 2 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t)) = decodeScaled (kParams m c) (inputOf (m (c, main_arg0)) b) := by
  have hs := fun j => (blk_deg m c t j).2.1
  unfold bodyState decodeScaled
  rw [stateOf_layer (kParams m c) 2 _ _ _ _ _ _ hs (fun d e => (blk_weights m c t d e).2.2)
      (fun j e => (blk_bias m c t j e).1.2.2) (fun k i o => (blk_taps m c t k i o).2.2) (fun j e => (blk_bias m c t j e).2.2.2),
    stateOf_layer (kParams m c) 1 _ _ _ _ _ _ hs (fun d e => (blk_weights m c t d e).2.1)
      (fun j e => (blk_bias m c t j e).1.2.1) (fun k i o => (blk_taps m c t k i o).2.1) (fun j e => (blk_bias m c t j e).2.2.1),
    stateOf_layer (kParams m c) 0 _ _ _ _ _ _ hs (fun d e => (blk_weights m c t d e).1)
      (fun j e => (blk_bias m c t j e).1.1) (fun k i o => (blk_taps m c t k i o).1) (fun j e => (blk_bias m c t j e).2.1),
    stateOf_inV]
  congr 3
  funext t' j e
  unfold scaled inputOf
  rw [← blk_input m c t b hb t' j e, ← (blk_deg m c t j).1]
  pointwise

/-- The output block at grid point `t`, at an index. -/
theorem out_at (t : Fin cfg0.N) (b : Fin 16) (hb : b.val = t.val)
    (H : Admissible (kParams m c) (inputOf (m (c, main_arg0)) b)) (n : Fin 4096) (o : Fin 3) :
    out0_18 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (ix3 0 n o) =
      decoded (kParams m c) (m (c, main_arg0)) (m (c, main_arg13)) (m (c, main_arg14)) b n o := by
  have hst := fun t' j e => congrFun (congrFun (congrFun (stateOf_body m c t b hb) t') j) e
  rw [decodeScaled_eq _ _ H] at hst
  rw [out_eq, outV_at]
  unfold decoded
  have e0 : ∀ j : Fin 32, k0_pay3 (F := Ideal) (View.ld (iblk m c 3 t : Vec Ideal S1x32x1 .f32) r0_0) (ix3 0 j 0) = ((1 / sReal j : ℝ) : EReal) := by
    intro j
    rw [← (blk_deg m c t j).2.2]
    pointwise [k0_pay3]
  have e1 : ∀ d : Fin 128, (View.ld (iblk m c 16 t : Vec Ideal S128x3 .f32) r0_7 : Vec Ideal S128x3 .f32) (ix2 d o) = m (c, main_arg13) (ix2 d o) := by
    intro d
    rw [← (blk_out m c t d o).1]
    pointwise
  have e2 : (View.ld (iblk m c 17 t : Vec Ideal S1x3 .f32) r0_8 : Vec Ideal S1x3 .f32) (ix2 0 o) = m (c, main_arg14) (ix1 o) := by
    rw [← (blk_out m c t 0 o).2]
    pointwise
  rw [e2]
  refine congrArg (· + _) (Finset.sum_congr rfl fun d _ => ?_)
  refine congrArg₂ (· * ·) ?_ (e1 d)
  exact (congrArg₂ (· * ·) (hst _ _ _) (e0 _)).trans (s_cancel _ _)

/-- The result array after the run. -/
theorem final (H : ∀ b, Admissible (kParams m c) (inputOf (m (c, main_arg0)) b)) :
    (dats m 0 c).arrAt 18 cfg0.N = kResult m c := by
  refine (dats m 0 c).arrAt_eq_of_covers 18 _ (by decide +kernel) fun t hf y => ?_
  blk_simp
  rw [after0_18]
  idx_vars y
  obtain rfl : y0 = 0 := Subsingleton.elim _ _
  rw [out_at m c t ⟨t.val, t.isLt⟩ rfl (H _)]
  have he : ((View.whole main_v51).slice (win0_18.rect t)).emb (ix3 0 y1 y2) = (ix3 ⟨t.val, t.isLt⟩ y1 y2 : S16x4096x3.Idx) := by
    blk_ext [(idx_eq t).1.2]
  rw [he]
  rfl

end Cert.Decoder

end
-- ==== Proof.Pre.lean ====
/-
  What the precondition says of the arrays: an array all of whose absolute values are below infinity holds reals, and
  one all of whose values are above minus infinity holds no minus infinity.
-/
module

public import proofs.«01_k».proof.Defs
public import proofs.«01_k».proof.Proof.Result
public import proofs.«01_k».proof.Proof.Gen.Pre_admissible
public import Idealize.ShloMosaic.Lib.ReduceAll

@[expose] public section

set_option maxRecDepth 16384
set_option maxHeartbeats 1000000

noncomputable section

namespace Cert.Decoder

open Idealize.ShloMosaic Idealize.ShloMosaic.TcCoe Idealize.SL.Sem

/-- A value whose absolute value is below infinity is a real. -/
theorem real_of_abs_lt (x : EReal) (h : max x (-x) < ⊤) : ∃ r : ℝ, x = (r : EReal) := by
  induction x with
  | bot => simp at h
  | top => simp at h
  | coe r => exact ⟨r, rfl⟩

/-- An array that passes the precondition's test holds reals. -/
theorem real_of_mask {s : Shape} {axes : List (Fin s.rank)} (a : FVec Ideal s .f32) (init : Cert.Pre_admissible.S_.Idx → BitVec 1)
    (hb) (hr : s.ReducesTo axes Cert.Pre_admissible.S_) (hu) (j : Cert.Pre_admissible.S_.Idx)
    (h : Host.reduce IntOp.andi (cmpf .olt (Host.absf a) (broadcastInDim s ![] hb
      (constant Cert.Pre_admissible.S_ .f32 0x7F800000#32))) init hr hu j = 1#1) (i : s.Idx) : ∃ r : ℝ, a i = (r : EReal) := by
  haveI : Subsingleton Cert.Pre_admissible.S_.Idx := ⟨fun x y => funext fun k => k.elim0⟩
  have e := Host.reduce_andi_all _ _ hr hu j h i
  refine real_of_abs_lt (a i) ?_
  change Ideal.cmp .olt (max (a i) (-(a i))) (Ideal.ofBits .f32 0x7F800000#32) = 1#1 at e
  rw [show Ideal.ofBits .f32 0x7F800000#32 = ⊤ by simp [Ideal.ofBits, Ideal.ieee]] at e
  by_contra hn
  simp [Ideal.cmp, hn] at e

/-- An array that passes the precondition's other test has no minus infinity. -/
theorem ne_bot_of_mask {s : Shape} {axes : List (Fin s.rank)} (a : FVec Ideal s .f32) (init : Cert.Pre_admissible.S_.Idx → BitVec 1)
    (hb) (hr : s.ReducesTo axes Cert.Pre_admissible.S_) (hu) (j : Cert.Pre_admissible.S_.Idx)
    (h : Host.reduce IntOp.andi (cmpf .ogt a (broadcastInDim s ![] hb
      (constant Cert.Pre_admissible.S_ .f32 0xFF800000#32))) init hr hu j = 1#1) (i : s.Idx) : a i ≠ (⊥ : EReal) := by
  haveI : Subsingleton Cert.Pre_admissible.S_.Idx := ⟨fun x y => funext fun k => k.elim0⟩
  have e := Host.reduce_andi_all _ _ hr hu j h i
  change Ideal.cmp .ogt (a i) (Ideal.ofBits .f32 0xFF800000#32) = 1#1 at e
  rw [show Ideal.ofBits .f32 0xFF800000#32 = ⊥ by simp [Ideal.ofBits, Ideal.ieee]] at e
  intro hn
  simp [Ideal.cmp, hn] at e

/-- The precondition gives the kernel's arrays what the decoder asks of them. -/
theorem admissible_of_pre (m : (ℓ : Loc Cert.KernelIdeal.nD Cert.KernelIdeal.τ Cert.KernelIdeal.sig) → Buf (Elt Ideal) ℓ)
    (h : Cert.Pre_KernelIdeal_admissible (hPre_admissible := Cert.Pre_admissible.Gen.facts) m) (c : Dev Cert.KernelIdeal.nD)
    (b : Fin 16) : Admissible (kParams m c) (inputOf (m (c, Cert.KernelIdeal.main_arg0)) b) := by
  have e := congrFun (h c) fun k => k.elim0
  dsimp only [Cert.Pre_admissible.fn, Cert.Pre_admissible.fn_part1, andi] at e
  simp only [IntOp.andi_eq_one] at e
  obtain ⟨⟨⟨e0, e1⟩, e5⟩, e9⟩ := e
  constructor
  · exact fun t j d => ne_bot_of_mask _ _ _ _ _ _ e0 (ix4 b t j d)
  · intro l d e
    fin_cases l
    exacts [real_of_mask _ _ _ _ _ _ e1 (ix2 d e), real_of_mask _ _ _ _ _ _ e5 (ix2 d e), real_of_mask _ _ _ _ _ _ e9 (ix2 d e)]

end Cert.Decoder

end
-- ==== Proof.RefLayers.lean ====
/-
  The reference's arrays at an index: the adjacency, its normalisation, and the two layers, as `Model.lean` states
  them. The generated run's named terms are compositions of the layers, by unfolding.
-/
module

public import proofs.«01_k».proof.Proof.Model
public import proofs.«01_k».proof.Proof.Gen.ReferenceIdeal.Run
public import Idealize.ShloMosaic.Lib.Tactic.CleanTypes

@[expose] public section

set_option maxRecDepth 16384
set_option maxHeartbeats 1000000

noncomputable section

namespace Cert.Decoder.Ref

open Idealize.ShloMosaic Idealize.ShloMosaic.TcCoe Idealize.SL.Sem Cert.ReferenceIdeal Cert.ReferenceIdeal.Gen
  Cert.ReferenceIdeal.Value

variable (V0 : Valuation τ sig (Elt Ideal))

/-- The residual of a layer: the state plus the larger of zero and the layer's value with its bias. -/
def residV (b : FVec Ideal S128 .f32) (h y : FVec Ideal S16x128x32x128 .f32) : FVec Ideal S16x128x32x128 .f32 :=
  addf h (maximumf (addf y (broadcastInDim S16x128x32x128 ![0, 1, 2, 3] bcast_S1x1x1x128_S16x128x32x128_0_1_2_3
    (broadcastInDim S1x1x1x128 ![3] bcast_S128_S1x1x1x128_3 b)))
    (broadcastInDim S16x128x32x128 ![] bcast_S_S16x128x32x128 (constant S_ .f32 0x00000000#32)))

/-- The graph layer. -/
def gcnV (A : FVec Ideal S32x32 .f32) (W : FVec Ideal S128x128 .f32) (b : FVec Ideal S128 .f32)
    (h : FVec Ideal S16x128x32x128 .f32) : FVec Ideal S16x128x32x128 .f32 :=
  residV b h (transpose S16x128x32x128 [0, 1, 3, 2] (Host.dotGeneral dot_S16x128x32x128_S32x32_S16x128x128x32_2_1_013_0_n_n none
    (Host.dotGeneral dot_S16x128x32x128_S128x128_S16x128x32x128_3_0_012_1_n_n none h W) A) transposes_S16x128x128x32_S16x128x32x128_0_1_3_2)

/-- One tap of the temporal layer: a state times one of the three matrices. -/
def tapV (w : FVec Ideal S128x128x1 .f32) (h : FVec Ideal S16x128x32x128 .f32) : FVec Ideal S16x128x32x128 .f32 :=
  Host.dotGeneral dot_S16x128x32x128_S128x128_S16x128x32x128_3_1_012_0_n_n none h (shapeCast S128x128 w shapeCasts_S128x128x1_S128x128)

/-- The state a time step earlier, zero before the first. -/
def beforeV (h : FVec Ideal S16x128x32x128 .f32) : FVec Ideal S16x128x32x128 .f32 :=
  extractStridedSlice S16x128x32x128 ![0, 0, 0, 0] (pad S16x129x32x128 ![0, 1, 0, 0] ![0, 0, 0, 0] ![0, 0, 0, 0] h
    (sitofp .f32 (constantI S_ 32 0#32)) pads_S16x128x32x128_S16x129x32x128_000_100_000_000 h_S_) slices_S16x129x32x128_S16x128x32x128_0_0_0_0

/-- The state a time step later, zero after the last. -/
def afterV (h : FVec Ideal S16x128x32x128 .f32) : FVec Ideal S16x128x32x128 .f32 :=
  extractStridedSlice S16x128x32x128 ![0, 1, 0, 0] (pad S16x129x32x128 ![0, 0, 0, 0] ![0, 1, 0, 0] ![0, 0, 0, 0] h
    (sitofp .f32 (constantI S_ 32 0#32)) pads_S16x128x32x128_S16x129x32x128_000_010_000_000 h_S_) slices_S16x129x32x128_S16x128x32x128_0_1_0_0

/-- The temporal layer. -/
def convV (w : FVec Ideal S128x128x3 .f32) (b : FVec Ideal S128 .f32) (h : FVec Ideal S16x128x32x128 .f32) :
    FVec Ideal S16x128x32x128 .f32 :=
  residV b h (addf (addf (tapV (extractStridedSlice S128x128x1 ![0, 0, 0] w slices_S128x128x3_S128x128x1_0_0_0) (beforeV h))
    (tapV (extractStridedSlice S128x128x1 ![0, 0, 1] w slices_S128x128x3_S128x128x1_0_0_1) h))
    (tapV (extractStridedSlice S128x128x1 ![0, 0, 2] w slices_S128x128x3_S128x128x1_0_0_2) (afterV h)))

/-- The output. -/
def outV (w : FVec Ideal S128x3 .f32) (b : FVec Ideal S3 .f32) (h : FVec Ideal S16x128x32x128 .f32) : FVec Ideal S16x4096x3 .f32 :=
  shapeCast S16x4096x3 (addf (Host.dotGeneral dot_S16x128x32x128_S128x3_S16x128x32x3_3_0_012_1_n_n none h w)
    (broadcastInDim S16x128x32x3 ![0, 1, 2, 3] bcast_S1x1x1x3_S16x128x32x3_0_1_2_3
      (broadcastInDim S1x1x1x3 ![3] bcast_S3_S1x1x1x3_3 b))) shapeCasts_S16x128x32x3_S16x4096x3

/-- The state after each layer but the last is the layer of the state before it. -/
theorem res_eq :
    (res_main_v25 V0 = gcnV (res_main_v16 V0) (V0 (Proc.devRef .tc main_arg1)) (V0 (Proc.devRef .tc main_arg2)) (V0 (Proc.devRef .tc main_arg0)) ∧
      res_main_v46 V0 = convV (V0 (Proc.devRef .tc main_arg3)) (V0 (Proc.devRef .tc main_arg4)) (res_main_v25 V0)) ∧
    (res_main_v55 V0 = gcnV (res_main_v16 V0) (V0 (Proc.devRef .tc main_arg5)) (V0 (Proc.devRef .tc main_arg6)) (res_main_v46 V0) ∧
      res_main_v76 V0 = convV (V0 (Proc.devRef .tc main_arg7)) (V0 (Proc.devRef .tc main_arg8)) (res_main_v55 V0)) ∧
    res_main_v85 V0 = gcnV (res_main_v16 V0) (V0 (Proc.devRef .tc main_arg9)) (V0 (Proc.devRef .tc main_arg10)) (res_main_v76 V0) :=
  ⟨⟨rfl, rfl⟩, ⟨rfl, rfl⟩, rfl⟩

/-- One batch element of an array as a state. -/
def stateOf (h : FVec Ideal S16x128x32x128 .f32) (b : Fin 16) : State := fun t j d => h (ix4 b t j d)

/-- The residual at an index. -/
theorem residV_at (b : FVec Ideal S128 .f32) (h y : FVec Ideal S16x128x32x128 .f32) (n : Fin 16) (t : Fin 128) (j : Fin 32) (e : Fin 128) :
    residV b h y (ix4 n t j e) = h (ix4 n t j e) + max (y (ix4 n t j e) + b (ix1 e)) 0 := by
  pointwise [residV]

/-- The graph layer as a state. -/
theorem stateOf_gcnV (A : FVec Ideal S32x32 .f32) (hA : ∀ j k, A (ix2 j k) = normAdj j k) (W : FVec Ideal S128x128 .f32)
    (b : FVec Ideal S128 .f32) (h : FVec Ideal S16x128x32x128 .f32) (n : Fin 16) :
    stateOf (gcnV A W b h) n = gcnRef (fun d e => W (ix2 d e)) (fun e => b (ix1 e)) (stateOf h n) := by
  funext t j e
  unfold stateOf gcnV gcnRef
  rw [residV_at]
  pointwise
  simp only [hA, mul_comm (normAdj _ _)]

/-- One tap at an index. -/
theorem tapV_at (w : FVec Ideal S128x128x1 .f32) (h : FVec Ideal S16x128x32x128 .f32) (n : Fin 16) (t : Fin 128) (j : Fin 32) (e : Fin 128) :
    tapV w h (ix4 n t j e) = ∑ i : Fin 128, h (ix4 n t j i) * w (ix3 e i 0) := by
  pointwise [tapV]

/-- The pad's zero, an integer converted. -/
theorem pad_zero : (FloatOps.sitofp .f32 (0#32) : Ideal .f32) = (0 : EReal) := by
  rw [show (FloatOps.sitofp .f32 (0#32) : Ideal .f32) = (((0#32).toInt : ℝ) : EReal) from rfl]
  simp

/-- The state a time step earlier, at an index. -/
theorem beforeV_at (h : FVec Ideal S16x128x32x128 .f32) (n : Fin 16) (t : Fin 128) (j : Fin 32) (i : Fin 128) :
    beforeV h (ix4 n t j i) = prev (fun t => h (ix4 n t j i)) t := by
  pointwise [beforeV]
  rw [pad_zero]
  unfold prev
  by_cases ht : t.val < 1
  · rw [dif_pos ht, dif_neg (by omega)]
  · rw [dif_neg ht, dif_pos (by omega)]

/-- The state a time step later, at an index. -/
theorem afterV_at (h : FVec Ideal S16x128x32x128 .f32) (n : Fin 16) (t : Fin 128) (j : Fin 32) (i : Fin 128) :
    afterV h (ix4 n t j i) = next (fun t => h (ix4 n t j i)) t := by
  pointwise [afterV]
  rw [pad_zero]
  unfold next
  simp only [Nat.add_comm 1]

/-- The temporal layer as a state. -/
theorem stateOf_convV (w : FVec Ideal S128x128x3 .f32) (b : FVec Ideal S128 .f32) (h : FVec Ideal S16x128x32x128 .f32) (n : Fin 16) :
    stateOf (convV w b h) n = convRef (fun o i k => w (ix3 o i k)) (fun e => b (ix1 e)) (stateOf h n) := by
  funext t j e
  unfold stateOf convV convRef
  rw [residV_at]
  pointwise
  simp only [tapV_at, beforeV_at, afterV_at]
  pointwise

/-- The output at an index. -/
theorem outV_at (w : FVec Ideal S128x3 .f32) (b : FVec Ideal S3 .f32) (h : FVec Ideal S16x128x32x128 .f32) (n : Fin 16) (r : Fin 4096) (o : Fin 3) :
    outV w b h (ix3 n r o) =
      (∑ d : Fin 128, stateOf h n ⟨r.val / 32, by omega⟩ ⟨r.val % 32, by omega⟩ d * w (ix2 d o)) + b (ix1 o) := by
  unfold stateOf
  pointwise [outV]

/-- The adjacency. -/
theorem v6_at (j k : Fin 32) : res_main_v6 V0 (ix2 j k) = adj j k := by
  unfold res_main_v6
  clean_types
  pointwise
  have h : ∀ j k : Fin 32, IntOp.cmpi .sle (IntOp.absi (IntOp.subi (BitVec.ofNat 32 j.val) (BitVec.ofNat 32 k.val))) 1#32 =
      if j.val ≤ k.val + 1 ∧ k.val ≤ j.val + 1 then 1#1 else 0#1 := by
    decide +kernel
  rw [h]
  unfold adj
  split <;> rfl

/-- The coercion from the reals commutes with finite sums. -/
theorem coe_sum {ι : Type} (T : Finset ι) (f : ι → ℝ) :
    ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- The sum of a row of the adjacency is the degree. -/
theorem adj_sum (j : Fin 32) : ∑ k : Fin 32, adj j k = ((deg j : ℝ) : EReal) := by
  have h : ∀ j : Fin 32, (Finset.univ.filter fun k : Fin 32 => j.val ≤ k.val + 1 ∧ k.val ≤ j.val + 1).card =
      if j.val = 0 ∨ j.val = 31 then 2 else 3 := by
    decide +kernel
  have hr : ∀ k, adj j k = ((if j.val ≤ k.val + 1 ∧ k.val ≤ j.val + 1 then (1 : ℝ) else 0 : ℝ) : EReal) := by
    intro k
    unfold adj
    split <;> simp
  simp only [hr, ← coe_sum]
  rw [Finset.sum_boole, h]
  unfold deg
  split <;> norm_num

/-- `D^{-1/2}`. -/
theorem v10_at (j : Fin 32) : res_main_v10 V0 (ix1 j) = s j := by
  unfold res_main_v10
  clean_types
  pointwise
  simp only [v6_at]
  rw [adj_sum, inv_sqrt_deg]

/-- The normalised adjacency. -/
theorem v16_at (j k : Fin 32) : res_main_v16 V0 (ix2 j k) = normAdj j k := by
  unfold res_main_v16
  clean_types
  pointwise
  simp only [v6_at, v10_at]
  rfl

end Cert.Decoder.Ref

end
-- ==== Proof.RefResult.lean ====
/-
  The reference's result array at an index: the decoder of its argument arrays.
-/
module

public import proofs.«01_k».proof.Proof.RefLayers

@[expose] public section

set_option maxRecDepth 16384
set_option maxHeartbeats 1000000

noncomputable section

namespace Cert.Decoder.Ref

open Idealize.ShloMosaic Idealize.ShloMosaic.StableHlo Idealize.ShloMosaic.TcCoe Idealize.SL.Sem Cert.ReferenceIdeal
  Cert.ReferenceIdeal.Value

variable (m : (ℓ : Loc nD τ sig) → Buf (Elt Ideal) ℓ) (c : Dev nD)

/-- The result array, in the layers. -/
def resultV : FVec Ideal S16x4096x3 .f32 :=
  outV (m (c, main_arg13)) (m (c, main_arg14)) (convV (m (c, main_arg11)) (m (c, main_arg12))
    (res_main_v85 (launchContents m c)))

/-- The decoder's parameters in the reference's memory. -/
def rParams : Params :=
  paramsOf (m (c, main_arg1)) (m (c, main_arg2)) (m (c, main_arg3)) (m (c, main_arg4)) (m (c, main_arg5)) (m (c, main_arg6))
    (m (c, main_arg7)) (m (c, main_arg8)) (m (c, main_arg9)) (m (c, main_arg10)) (m (c, main_arg11)) (m (c, main_arg12))

/-- The result at an index is the decoder's. -/
theorem resultV_at (n : Fin 16) (r : Fin 4096) (o : Fin 3) :
    resultV m c (ix3 n r o) = decoded (rParams m c) (m (c, main_arg0)) (m (c, main_arg13)) (m (c, main_arg14)) n r o := by
  unfold resultV
  obtain ⟨⟨h1, h2⟩, ⟨h3, h4⟩, h5⟩ := res_eq (launchContents m c)
  rw [outV_at, stateOf_convV, h5, stateOf_gcnV _ (v16_at _), h4, stateOf_convV, h3, stateOf_gcnV _ (v16_at _), h2, stateOf_convV,
    h1, stateOf_gcnV _ (v16_at _)]
  rfl

end Cert.Decoder.Ref

end
-- ==== Proof.lean ====
/-
  The proof of `Cert.Claim` (proof/Defs.lean): the generated frames, and the algebraic claim. The kernel's result array and the
  reference's are both the decoder of `Proof/Model.lean` over the argument arrays (`Proof/Result.lean`, `Proof/RefResult.lean`);
  the kernel's is so because the precondition keeps minus infinity out of the state and the graph weights real (`Proof/Pre.lean`).
-/
module

public import proofs.«01_k».proof.Defs
public import proofs.«01_k».proof.Proof.Gen.Kernel.Frame
public import proofs.«01_k».proof.Proof.Pre
public import proofs.«01_k».proof.Proof.RefResult
public import Idealize.ShloMosaic.Lib.Quiescent

@[expose] public section

set_option maxRecDepth 16384
set_option maxHeartbeats 1000000

noncomputable section

namespace Cert.Proof

open Idealize.ShloMosaic Idealize.ShloMosaic.TcCoe Idealize.SL.Sem Cert.Decoder

/-- The reference runs, its arguments end unchanged, and it declares no semaphore. -/
theorem frame_r : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Under the precondition the kernel and the reference end with equal results. -/
theorem algebraic : Cert.algebraic_KernelIdeal_ReferenceIdeal_pre_admissible (hKernelIdeal := Cert.KernelIdeal.Gen.facts)
    (hReferenceIdeal := Cert.ReferenceIdeal.Gen.facts) (hPre_admissible := Cert.Pre_admissible.Gen.facts) := by
  intro m g m' g' hpre hargs
  refine ⟨kResult m, ?_, ?_⟩
  · refine (θ_run (Cert.KernelIdeal.defs (F := Ideal)) _ _).mono (fun r h c => ?_) (Cert.KernelIdeal.Value.run_blocks (F := Ideal) m g)
    exact ⟨(h c).1.trans (final m c (admissible_of_pre m hpre c)), (h c).2⟩
  · refine (θ_run (Cert.ReferenceIdeal.defs (F := Ideal)) _ _).mono (fun r h c => ?_) (Cert.ReferenceIdeal.Value.run (F := Ideal) m' g')
    refine ⟨(h c).1.trans ?_, (h c).2⟩
    obtain ⟨h0, h1, h2, h3, h4, h5, h6, h7, h8, h9, h10, h11, h12, h13, h14⟩ := hargs c
    refine Eq.trans (b := Ref.resultV m' c) rfl (funext fun y => ?_)
    idx_vars y
    refine (Ref.resultV_at m' c y0 y1 y2).trans ?_
    have hp : Ref.rParams m' c = kParams m c := by
      unfold Ref.rParams kParams
      rw [h1, h2, h3, h4, h5, h6, h7, h8, h9, h10, h11, h12]
    rw [hp, h0, h13, h14]
    rfl

/-- Every claim of the certificate. -/
theorem claim : Cert.Claim :=
  ⟨Cert.Kernel.Gen.facts, Cert.KernelIdeal.Gen.facts, Cert.ReferenceIdeal.Gen.facts, Cert.Pre_admissible.Gen.facts,
    fun m g _ => Cert.Kernel.Gen.frame m g, fun m g _ => Cert.KernelIdeal.Gen.frame m g, fun m g _ => Cert.KernelIdeal.Gen.frame m g,
    frame_r, fun m g _ => frame_r m g trivial, trivial, algebraic⟩

end Cert.Proof

end
